-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S8x512x4096 : Shape := ⟨3, ![8, 512, 4096]⟩
abbrev S2x1024x1024 : Shape := ⟨3, ![2, 1024, 1024]⟩
abbrev S2x512x1024 : Shape := ⟨3, ![2, 512, 1024]⟩
abbrev S2 : Shape := ⟨1, ![2]⟩
abbrev S14 : Shape := ⟨1, ![14]⟩
abbrev S_ : Shape := ⟨0, ![]⟩
abbrev S256x4096 : Shape := ⟨2, ![256, 4096]⟩
abbrev S1x256x4096 : Shape := ⟨3, ![1, 256, 4096]⟩
abbrev S1x1024x1024 : Shape := ⟨3, ![1, 1024, 1024]⟩
abbrev S1024x1024 : Shape := ⟨2, ![1024, 1024]⟩
abbrev S1x512x4096 : Shape := ⟨3, ![1, 512, 4096]⟩
abbrev S512x1024 : Shape := ⟨2, ![512, 1024]⟩
abbrev S1x512x1024 : Shape := ⟨3, ![1, 512, 1024]⟩
abbrev S256x1024 : Shape := ⟨2, ![256, 1024]⟩
abbrev S1x256x1024 : Shape := ⟨3, ![1, 256, 1024]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .f32⟩
  | .local _ .vmem, ⟨1, _⟩ => ⟨S8x512x4096, .fp8e4m3⟩
  | .local _ .vmem, ⟨2, _⟩ => ⟨S4096x1024, .fp8e5m2⟩
  | .local _ .vmem, ⟨3, _⟩ => ⟨S2x1024x1024, .f32⟩
  | .local _ .vmem, ⟨4, _⟩ => ⟨S2x512x1024, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_60 : BitVec 32 := 1#32
  let v114 : BitVec 32 := Scalar.muli v26 c1_i32_60
  let v115 : BitVec 32 := Scalar.addi c0_i32_61 v114
  v115.toNat
def k0_dev2 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_63 : BitVec 32 := 1#32
  let v116 : BitVec 32 := Scalar.muli v38 c1_i32_63
  let v117 : BitVec 32 := Scalar.addi c0_i32_64 v116
  v117.toNat
def k0_dev3 (d0 : Dev nD) : Nat :=
  let c0_i32_67 : BitVec 32 := 0#32
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v39 : BitVec 32 := Scalar.addi v14 v12
  let c1_i32_66 : BitVec 32 := 1#32
  let v118 : BitVec 32 := Scalar.muli v39 c1_i32_66
  let v119 : BitVec 32 := Scalar.addi c0_i32_67 v118
  v119.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : Index := Scalar.indexCast v2
  let c0_72 : Index := 0#32
  let c0_73 : Index := 0#32
  ![v126.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let c0_i32_79 : BitVec 32 := 0#32
  ![v2.toNat, 0, 0]
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_76 : BitVec 32 := 1#32
  let v130 : BitVec 32 := Scalar.muli v26 c1_i32_76
  let v131 : BitVec 32 := Scalar.addi c0_i32_77 v130
  v131.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_83 : BitVec 32 := 1#32
  let v140 : BitVec 32 := Scalar.muli v38 c1_i32_83
  let v141 : BitVec 32 := Scalar.addi c0_i32_84 v140
  v141.toNat
def k0_dev6 (d0 : Dev nD) : Nat :=
  let c0_i32_91 : BitVec 32 := 0#32
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v39 : BitVec 32 := Scalar.addi v14 v12
  let c1_i32_90 : BitVec 32 := 1#32
  let v150 : BitVec 32 := Scalar.muli v39 c1_i32_90
  let v151 : BitVec 32 := Scalar.addi c0_i32_91 v150
  v151.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v163 : Index := Scalar.indexCast v2
  let c256_97 : Index := 256#32
  let c0_98 : Index := 0#32
  ![v163.toNat, 256, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let c0_i32_103 : BitVec 32 := 0#32
  ![v2.toNat, 256, 0]
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_101 : BitVec 32 := 1#32
  let v167 : BitVec 32 := Scalar.muli v26 c1_i32_101
  let v168 : BitVec 32 := Scalar.addi c0_i32_102 v167
  v168.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_107 : BitVec 32 := 1#32
  let v177 : BitVec 32 := Scalar.muli v38 c1_i32_107
  let v178 : BitVec 32 := Scalar.addi c0_i32_108 v177
  v178.toNat
def k0_dev9 (d0 : Dev nD) : Nat :=
  let c0_i32_115 : BitVec 32 := 0#32
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v39 : BitVec 32 := Scalar.addi v14 v12
  let c1_i32_114 : BitVec 32 := 1#32
  let v187 : BitVec 32 := Scalar.muli v39 c1_i32_114
  let v188 : BitVec 32 := Scalar.addi c0_i32_115 v187
  v188.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v261 : Index := Scalar.indexCast v2
  let c0_181 : Index := 0#32
  let c0_182 : Index := 0#32
  ![v261.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v281 : BitVec 32 := Scalar.muli v2 c512_i32
  let c0_i32_194 : BitVec 32 := 0#32
  ![v281.toNat, 0]
def k0_off7 (d0 : Dev nD) (c3_i32_18 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v40 : BitVec 32 := Scalar.addi v12 c3_i32_18
  let c4_i32_19 : BitVec 32 := 4#32
  let c0_i32_20 : BitVec 32 := 0#32
  let v41 : BitVec 1 := Scalar.cmpi .eq c4_i32_19 c0_i32_20
  let c1_i32_21 : BitVec 32 := 1#32
  let v42 : BitVec 32 := Scalar.select v41 c1_i32_21 c4_i32_19
  let v43 : BitVec 32 := Scalar.remsi v40 v42
  let c0_i32_23 : BitVec 32 := 0#32
  let v45 : BitVec 1 := Scalar.cmpi .slt v43 c0_i32_23
  let c0_i32_24 : BitVec 32 := 0#32
  let v46 : BitVec 1 := Scalar.cmpi .slt v42 c0_i32_24
  let v47 : BitVec 1 := Scalar.xori v45 v46
  let c0_i32_22 : BitVec 32 := 0#32
  let v44 : BitVec 1 := Scalar.cmpi .ne v43 c0_i32_22
  let v48 : BitVec 1 := Scalar.andi v47 v44
  let v49 : BitVec 32 := Scalar.addi v43 v42
  let v50 : BitVec 32 := Scalar.select v48 v49 v43
  let v51 : BitVec 32 := Scalar.addi v13 v50
  let c0_i32_201 : BitVec 32 := 0#32
  let c0_i32_202 : BitVec 32 := 0#32
  ![v51.toNat, 0, 0]
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_207 : BitVec 32 := 1#32
  let v295 : BitVec 32 := Scalar.muli v26 c1_i32_207
  let v296 : BitVec 32 := Scalar.addi c0_i32_208 v295
  v296.toNat
def k0_off8 (d0 : Dev nD) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v76 : BitVec 32 := Scalar.addi v14 v12
  let c0_i32_217 : BitVec 32 := 0#32
  let c0_i32_218 : BitVec 32 := 0#32
  ![v76.toNat, 0, 0]
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_223 : BitVec 32 := 1#32
  let v313 : BitVec 32 := Scalar.muli v26 c1_i32_223
  let v314 : BitVec 32 := Scalar.addi c0_i32_224 v313
  v314.toNat
def k0_dev12 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_231 : BitVec 32 := 1#32
  let v323 : BitVec 32 := Scalar.muli v38 c1_i32_231
  let v324 : BitVec 32 := Scalar.addi c0_i32_232 v323
  v324.toNat
def k0_off9 (d0 : Dev nD) (c1_i32_31 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v64 : BitVec 32 := Scalar.addi v12 c1_i32_31
  let c4_i32_32 : BitVec 32 := 4#32
  let c0_i32_33 : BitVec 32 := 0#32
  let v65 : BitVec 1 := Scalar.cmpi .eq c4_i32_32 c0_i32_33
  let c1_i32_34 : BitVec 32 := 1#32
  let v66 : BitVec 32 := Scalar.select v65 c1_i32_34 c4_i32_32
  let v67 : BitVec 32 := Scalar.remsi v64 v66
  let c0_i32_36 : BitVec 32 := 0#32
  let v69 : BitVec 1 := Scalar.cmpi .slt v67 c0_i32_36
  let c0_i32_37 : BitVec 32 := 0#32
  let v70 : BitVec 1 := Scalar.cmpi .slt v66 c0_i32_37
  let v71 : BitVec 1 := Scalar.xori v69 v70
  let c0_i32_35 : BitVec 32 := 0#32
  let v68 : BitVec 1 := Scalar.cmpi .ne v67 c0_i32_35
  let v72 : BitVec 1 := Scalar.andi v71 v68
  let v73 : BitVec 32 := Scalar.addi v67 v66
  let v74 : BitVec 32 := Scalar.select v72 v73 v67
  let v75 : BitVec 32 := Scalar.addi v13 v74
  let c256_i32_241 : BitVec 32 := 256#32
  let c0_i32_242 : BitVec 32 := 0#32
  ![v75.toNat, 256, 0]
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_246 : BitVec 32 := 1#32
  let v341 : BitVec 32 := Scalar.muli v38 c1_i32_246
  let v342 : BitVec 32 := Scalar.addi c0_i32_247 v341
  v342.toNat
def k0_dev14 (d0 : Dev nD) : Nat :=
  let c0_i32_254 : BitVec 32 := 0#32
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v39 : BitVec 32 := Scalar.addi v14 v12
  let c1_i32_253 : BitVec 32 := 1#32
  let v351 : BitVec 32 := Scalar.muli v39 c1_i32_253
  let v352 : BitVec 32 := Scalar.addi c0_i32_254 v351
  v352.toNat
def k0_off10 (d0 : Dev nD) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v76 : BitVec 32 := Scalar.addi v14 v12
  let c256_i32_263 : BitVec 32 := 256#32
  let c0_i32_264 : BitVec 32 := 0#32
  ![v76.toNat, 256, 0]
def k0_dev15 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_5 : BitVec 32 := 1#32
  let v15 : BitVec 32 := Scalar.addi v12 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v26 : BitVec 32 := Scalar.addi v13 v25
  let c1_i32_269 : BitVec 32 := 1#32
  let v369 : BitVec 32 := Scalar.muli v26 c1_i32_269
  let v370 : BitVec 32 := Scalar.addi c0_i32_270 v369
  v370.toNat
def k0_off11 (d0 : Dev nD) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v76 : BitVec 32 := Scalar.addi v14 v12
  let v379 : Index := Scalar.indexCast v76
  let c0_275 : Index := 0#32
  let c0_276 : Index := 0#32
  ![v379.toNat, 0, 0]
def k0_off12 (d0 : Dev nD) : Fin 2 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v76 : BitVec 32 := Scalar.addi v14 v12
  let c512_i32_287 : BitVec 32 := 512#32
  let v399 : BitVec 32 := Scalar.muli v76 c512_i32_287
  let c0_i32_290 : BitVec 32 := 0#32
  ![v399.toNat, 0]
def k0_dev16 (d0 : Dev nD) : Nat :=
  let c0_i32_303 : BitVec 32 := 0#32
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v39 : BitVec 32 := Scalar.addi v14 v12
  let c1_i32_302 : BitVec 32 := 1#32
  let v413 : BitVec 32 := Scalar.muli v39 c1_i32_302
  let v414 : BitVec 32 := Scalar.addi c0_i32_303 v413
  v414.toNat
def k0_off13 (d0 : Dev nD) (c1_i32_45 : BitVec 32) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v89 : BitVec 32 := Scalar.addi v12 c1_i32_45
  let c4_i32_46 : BitVec 32 := 4#32
  let c0_i32_47 : BitVec 32 := 0#32
  let v90 : BitVec 1 := Scalar.cmpi .eq c4_i32_46 c0_i32_47
  let c1_i32_48 : BitVec 32 := 1#32
  let v91 : BitVec 32 := Scalar.select v90 c1_i32_48 c4_i32_46
  let v92 : BitVec 32 := Scalar.remsi v89 v91
  let c0_i32_50 : BitVec 32 := 0#32
  let v94 : BitVec 1 := Scalar.cmpi .slt v92 c0_i32_50
  let c0_i32_51 : BitVec 32 := 0#32
  let v95 : BitVec 1 := Scalar.cmpi .slt v91 c0_i32_51
  let v96 : BitVec 1 := Scalar.xori v94 v95
  let c0_i32_49 : BitVec 32 := 0#32
  let v93 : BitVec 1 := Scalar.cmpi .ne v92 c0_i32_49
  let v97 : BitVec 1 := Scalar.andi v96 v93
  let v98 : BitVec 32 := Scalar.addi v92 v91
  let v99 : BitVec 32 := Scalar.select v97 v98 v92
  let v100 : BitVec 32 := Scalar.addi v14 v99
  let c256_i32_312 : BitVec 32 := 256#32
  let c0_i32_313 : BitVec 32 := 0#32
  ![v100.toNat, 256, 0]
def k0_dev17 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v27 : BitVec 32 := Scalar.addi v12 c3_i32
  let c4_i32_12 : BitVec 32 := 4#32
  let c0_i32_13 : BitVec 32 := 0#32
  let v28 : BitVec 1 := Scalar.cmpi .eq c4_i32_12 c0_i32_13
  let c1_i32_14 : BitVec 32 := 1#32
  let v29 : BitVec 32 := Scalar.select v28 c1_i32_14 c4_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let v38 : BitVec 32 := Scalar.addi v13 v37
  let c1_i32_317 : BitVec 32 := 1#32
  let v431 : BitVec 32 := Scalar.muli v38 c1_i32_317
  let v432 : BitVec 32 := Scalar.addi c0_i32_318 v431
  v432.toNat
def k0_off14 (d0 : Dev nD) (c2_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v52 : BitVec 32 := Scalar.addi v12 c2_i32
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let v63 : BitVec 32 := Scalar.addi v13 v62
  let v449 : Index := Scalar.indexCast v63
  let c0_331 : Index := 0#32
  let c0_332 : Index := 0#32
  ![v449.toNat, 0, 0]
def k0_off15 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v52 : BitVec 32 := Scalar.addi v12 c2_i32
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let v63 : BitVec 32 := Scalar.addi v13 v62
  let c512_i32_348 : BitVec 32 := 512#32
  let v474 : BitVec 32 := Scalar.muli v63 c512_i32_348
  let c0_i32_351 : BitVec 32 := 0#32
  ![v474.toNat, 0]
def k0_off16 (d0 : Dev nD) (c1_i32_45 : BitVec 32) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v89 : BitVec 32 := Scalar.addi v12 c1_i32_45
  let c4_i32_46 : BitVec 32 := 4#32
  let c0_i32_47 : BitVec 32 := 0#32
  let v90 : BitVec 1 := Scalar.cmpi .eq c4_i32_46 c0_i32_47
  let c1_i32_48 : BitVec 32 := 1#32
  let v91 : BitVec 32 := Scalar.select v90 c1_i32_48 c4_i32_46
  let v92 : BitVec 32 := Scalar.remsi v89 v91
  let c0_i32_50 : BitVec 32 := 0#32
  let v94 : BitVec 1 := Scalar.cmpi .slt v92 c0_i32_50
  let c0_i32_51 : BitVec 32 := 0#32
  let v95 : BitVec 1 := Scalar.cmpi .slt v91 c0_i32_51
  let v96 : BitVec 1 := Scalar.xori v94 v95
  let c0_i32_49 : BitVec 32 := 0#32
  let v93 : BitVec 1 := Scalar.cmpi .ne v92 c0_i32_49
  let v97 : BitVec 1 := Scalar.andi v96 v93
  let v98 : BitVec 32 := Scalar.addi v92 v91
  let v99 : BitVec 32 := Scalar.select v97 v98 v92
  let v100 : BitVec 32 := Scalar.addi v14 v99
  let c0_i32_420 : BitVec 32 := 0#32
  let c0_i32_421 : BitVec 32 := 0#32
  ![v100.toNat, 0, 0]
def k0_off17 (d0 : Dev nD) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let c1_i32_45 : BitVec 32 := 1#32
  let v89 : BitVec 32 := Scalar.addi v12 c1_i32_45
  let c4_i32_46 : BitVec 32 := 4#32
  let c0_i32_47 : BitVec 32 := 0#32
  let v90 : BitVec 1 := Scalar.cmpi .eq c4_i32_46 c0_i32_47
  let c1_i32_48 : BitVec 32 := 1#32
  let v91 : BitVec 32 := Scalar.select v90 c1_i32_48 c4_i32_46
  let v92 : BitVec 32 := Scalar.remsi v89 v91
  let c0_i32_50 : BitVec 32 := 0#32
  let v94 : BitVec 1 := Scalar.cmpi .slt v92 c0_i32_50
  let c0_i32_51 : BitVec 32 := 0#32
  let v95 : BitVec 1 := Scalar.cmpi .slt v91 c0_i32_51
  let v96 : BitVec 1 := Scalar.xori v94 v95
  let c0_i32_49 : BitVec 32 := 0#32
  let v93 : BitVec 1 := Scalar.cmpi .ne v92 c0_i32_49
  let v97 : BitVec 1 := Scalar.andi v96 v93
  let v98 : BitVec 32 := Scalar.addi v92 v91
  let v99 : BitVec 32 := Scalar.select v97 v98 v92
  let v100 : BitVec 32 := Scalar.addi v14 v99
  let v566 : Index := Scalar.indexCast v100
  let c0_424 : Index := 0#32
  let c0_425 : Index := 0#32
  ![v566.toNat, 0, 0]
def k0_off18 (d0 : Dev nD) (c1_i32_45 : BitVec 32) : Fin 2 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v89 : BitVec 32 := Scalar.addi v12 c1_i32_45
  let c4_i32_46 : BitVec 32 := 4#32
  let c0_i32_47 : BitVec 32 := 0#32
  let v90 : BitVec 1 := Scalar.cmpi .eq c4_i32_46 c0_i32_47
  let c1_i32_48 : BitVec 32 := 1#32
  let v91 : BitVec 32 := Scalar.select v90 c1_i32_48 c4_i32_46
  let v92 : BitVec 32 := Scalar.remsi v89 v91
  let c0_i32_50 : BitVec 32 := 0#32
  let v94 : BitVec 1 := Scalar.cmpi .slt v92 c0_i32_50
  let c0_i32_51 : BitVec 32 := 0#32
  let v95 : BitVec 1 := Scalar.cmpi .slt v91 c0_i32_51
  let v96 : BitVec 1 := Scalar.xori v94 v95
  let c0_i32_49 : BitVec 32 := 0#32
  let v93 : BitVec 1 := Scalar.cmpi .ne v92 c0_i32_49
  let v97 : BitVec 1 := Scalar.andi v96 v93
  let v98 : BitVec 32 := Scalar.addi v92 v91
  let v99 : BitVec 32 := Scalar.select v97 v98 v92
  let v100 : BitVec 32 := Scalar.addi v14 v99
  let c512_i32_441 : BitVec 32 := 512#32
  let v591 : BitVec 32 := Scalar.muli v100 c512_i32_441
  let c0_i32_444 : BitVec 32 := 0#32
  ![v591.toNat, 0]
def k0_off19 (d0 : Dev nD) (c3_i32_38 : BitVec 32) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v77 : BitVec 32 := Scalar.addi v12 c3_i32_38
  let c4_i32_39 : BitVec 32 := 4#32
  let c0_i32_40 : BitVec 32 := 0#32
  let v78 : BitVec 1 := Scalar.cmpi .eq c4_i32_39 c0_i32_40
  let c1_i32_41 : BitVec 32 := 1#32
  let v79 : BitVec 32 := Scalar.select v78 c1_i32_41 c4_i32_39
  let v80 : BitVec 32 := Scalar.remsi v77 v79
  let c0_i32_43 : BitVec 32 := 0#32
  let v82 : BitVec 1 := Scalar.cmpi .slt v80 c0_i32_43
  let c0_i32_44 : BitVec 32 := 0#32
  let v83 : BitVec 1 := Scalar.cmpi .slt v79 c0_i32_44
  let v84 : BitVec 1 := Scalar.xori v82 v83
  let c0_i32_42 : BitVec 32 := 0#32
  let v81 : BitVec 1 := Scalar.cmpi .ne v80 c0_i32_42
  let v85 : BitVec 1 := Scalar.andi v84 v81
  let v86 : BitVec 32 := Scalar.addi v80 v79
  let v87 : BitVec 32 := Scalar.select v85 v86 v80
  let v88 : BitVec 32 := Scalar.addi v14 v87
  let v610 : Index := Scalar.indexCast v88
  let c0_460 : Index := 0#32
  let c0_461 : Index := 0#32
  ![v610.toNat, 0, 0]
def k0_off20 (d0 : Dev nD) (c3_i32_38 : BitVec 32) : Fin 3 → Nat :=
  let c4_i32_4 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v14 : BitVec 32 := Scalar.subi c4_i32_4 v13
  let v77 : BitVec 32 := Scalar.addi v12 c3_i32_38
  let c4_i32_39 : BitVec 32 := 4#32
  let c0_i32_40 : BitVec 32 := 0#32
  let v78 : BitVec 1 := Scalar.cmpi .eq c4_i32_39 c0_i32_40
  let c1_i32_41 : BitVec 32 := 1#32
  let v79 : BitVec 32 := Scalar.select v78 c1_i32_41 c4_i32_39
  let v80 : BitVec 32 := Scalar.remsi v77 v79
  let c0_i32_43 : BitVec 32 := 0#32
  let v82 : BitVec 1 := Scalar.cmpi .slt v80 c0_i32_43
  let c0_i32_44 : BitVec 32 := 0#32
  let v83 : BitVec 1 := Scalar.cmpi .slt v79 c0_i32_44
  let v84 : BitVec 1 := Scalar.xori v82 v83
  let c0_i32_42 : BitVec 32 := 0#32
  let v81 : BitVec 1 := Scalar.cmpi .ne v80 c0_i32_42
  let v85 : BitVec 1 := Scalar.andi v84 v81
  let v86 : BitVec 32 := Scalar.addi v80 v79
  let v87 : BitVec 32 := Scalar.select v85 v86 v80
  let v88 : BitVec 32 := Scalar.addi v14 v87
  let v671 : Index := Scalar.indexCast v88
  let c256_505 : Index := 256#32
  let c0_506 : Index := 0#32
  ![v671.toNat, 256, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Geom.lean ====
/-
  The mesh and the regions of the gathered array: the three neighbours of a device, which slot and which half of it each
  of the fourteen remote copies moves and to whom, the printed offsets and device numbers in these terms, and the index
  sets the copies, loads and stores touch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic
open Idealize.ShloMosaic.TcCoe
open Idealize.SL.Sem

/-! ## Neighbours -/

/-- The next device on the ring of four that `c` belongs to. -/
def cw (c : Dev nD) : Dev nD := ⟨c.val / 4 * 4 + (c.val + 1) % 4, by have := c.isLt; simp only [nD] at this ⊢; omega⟩
/-- The previous device on that ring. -/
def ccw (c : Dev nD) : Dev nD := ⟨c.val / 4 * 4 + (c.val + 3) % 4, by have := c.isLt; simp only [nD] at this ⊢; omega⟩
/-- The device at the same place of the other ring. -/
def zp (c : Dev nD) : Dev nD := ⟨(c.val + 4) % 8, by have := c.isLt; simp only [nD] at this ⊢; omega⟩

theorem cw_ccw : ∀ c, cw (ccw c) = c := by decide +kernel
theorem ccw_cw : ∀ c, ccw (cw c) = c := by decide +kernel
theorem zp_zp : ∀ c, zp (zp c) = c := by decide +kernel

/-- Which neighbour copy `t` goes to: `0` the next device, `1` the previous, `2` the one across. -/
def way (t : Fin 14) : Fin 3 := if t.val ≤ 4 then 0 else if t.val ≤ 8 ∨ t.val = 13 then 1 else 2
/-- The neighbour in a direction. -/
def nb (j : Fin 3) (c : Dev nD) : Dev nD := if j = 0 then cw c else if j = 1 then ccw c else zp c
/-- The neighbour whose neighbour in that direction is `c`. -/
def bn (j : Fin 3) (c : Dev nD) : Dev nD := if j = 0 then ccw c else if j = 1 then cw c else zp c
theorem nb_bn : ∀ j c, nb j (bn j c) = c := by decide +kernel
theorem bn_nb : ∀ j c, bn j (nb j c) = c := by decide +kernel
/-- Device `c`'s copy `t` lands on `dst t c`; `c` receives its copy `t` from `src t c`. -/
abbrev dst (t : Fin 14) (c : Dev nD) : Dev nD := nb (way t) c
abbrev src (t : Fin 14) (c : Dev nD) : Dev nD := bn (way t) c
theorem dst_src (t : Fin 14) (c : Dev nD) : dst t (src t c) = c := nb_bn _ _
theorem src_dst (t : Fin 14) (c : Dev nD) : src t (dst t c) = c := bn_nb _ _

/-- The slot of device `c`'s gathered array that its copy `t` reads, and writes on the other device. -/
def slot (t : Fin 14) (c : Dev nD) : Dev nD :=
  if t.val ≤ 1 ∨ t.val = 5 ∨ t.val = 6 ∨ t.val = 9 ∨ t.val = 10 then c
  else if t.val = 2 then ccw c
  else if t.val = 7 ∨ t.val = 11 then cw c
  else if t.val = 3 ∨ t.val = 8 ∨ t.val = 4 then zp c
  else if t.val = 12 then cw (cw c) else zp (cw c)
/-- Which half of the slot. -/
def half (t : Fin 14) : Fin 2 := if t.val = 0 ∨ t.val = 5 ∨ t.val = 9 ∨ t.val = 2 ∨ t.val = 3 ∨ t.val = 8 ∨ t.val = 12 then 0 else 1
/-- The slot of `c`'s array that the copy `t` it receives lands in. -/
abbrev inSlot (t : Fin 14) (c : Dev nD) : Dev nD := slot t (src t c)

/-- The sixteen halves of slots of `c`'s array: fourteen landings, then its own two. -/
def reg (c : Dev nD) (k : Fin 16) : Dev nD × Fin 2 :=
  if h : k.val < 14 then (inSlot ⟨k.val, h⟩ c, half ⟨k.val, h⟩) else (c, if k.val = 14 then 0 else 1)
theorem reg_inj : ∀ c k k', reg c k = reg c k' → k = k' := by decide +kernel
theorem reg_surj : ∀ c p, ∃ k, reg c k = p := by decide +kernel

/-! ## The printed offsets and device numbers -/

theorem dev1_eq : ∀ c : Dev nD, (⟨k0_dev1 c, k0_dev1_lt c⟩ : Dev nD) = nb 0 c := by decide +kernel
theorem dev2_eq : ∀ c : Dev nD, (⟨k0_dev2 c, k0_dev2_lt c⟩ : Dev nD) = nb 1 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = dst 0 c := by decide +kernel
theorem dev5_eq : ∀ c : Dev nD, (⟨k0_dev5 c, k0_dev5_lt c⟩ : Dev nD) = dst 5 c := by decide +kernel
theorem dev6_eq : ∀ c : Dev nD, (⟨k0_dev6 c, k0_dev6_lt c⟩ : Dev nD) = dst 9 c := by decide +kernel
theorem dev7_eq : ∀ c : Dev nD, (⟨k0_dev7 c, k0_dev7_lt c⟩ : Dev nD) = dst 1 c := by decide +kernel
theorem dev8_eq : ∀ c : Dev nD, (⟨k0_dev8 c, k0_dev8_lt c⟩ : Dev nD) = dst 6 c := by decide +kernel
theorem dev9_eq : ∀ c : Dev nD, (⟨k0_dev9 c, k0_dev9_lt c⟩ : Dev nD) = dst 10 c := by decide +kernel
theorem dev10_eq : ∀ c : Dev nD, (⟨k0_dev10 c, k0_dev10_lt c⟩ : Dev nD) = dst 2 c := by decide +kernel
theorem dev11_eq : ∀ c : Dev nD, (⟨k0_dev11 c, k0_dev11_lt c⟩ : Dev nD) = dst 3 c := by decide +kernel
theorem dev12_eq : ∀ c : Dev nD, (⟨k0_dev12 c, k0_dev12_lt c⟩ : Dev nD) = dst 8 c := by decide +kernel
theorem dev13_eq : ∀ c : Dev nD, (⟨k0_dev13 c, k0_dev13_lt c⟩ : Dev nD) = dst 7 c := by decide +kernel
theorem dev14_eq : ∀ c : Dev nD, (⟨k0_dev14 c, k0_dev14_lt c⟩ : Dev nD) = dst 11 c := by decide +kernel
theorem dev15_eq : ∀ c : Dev nD, (⟨k0_dev15 c, k0_dev15_lt c⟩ : Dev nD) = dst 4 c := by decide +kernel
theorem dev16_eq : ∀ c : Dev nD, (⟨k0_dev16 c, k0_dev16_lt c⟩ : Dev nD) = dst 12 c := by decide +kernel
theorem dev17_eq : ∀ c : Dev nD, (⟨k0_dev17 c, k0_dev17_lt c⟩ : Dev nD) = dst 13 c := by decide +kernel

/-- The offset of half `h` of slot `s`. -/
def hoff (s : Dev nD) (h : Fin 2) : Fin 3 → ℕ := ![s.val, 256 * h.val, 0]
/-- The offset of slot `s`. -/
def soff (s : Dev nD) : Fin 3 → ℕ := ![s.val, 0, 0]
/-- The offset of the result rows computed from slot `s`. -/
def roff (s : Dev nD) : Fin 2 → ℕ := ![512 * s.val, 0]

theorem off1_eq : ∀ c : Dev nD, k0_off1 c = hoff c 0 := by decide +kernel
theorem off2_eq : ∀ c : Dev nD, k0_off2 c = hoff c 0 := by decide +kernel
theorem off3_eq : ∀ c : Dev nD, k0_off3 c = hoff c 1 := by decide +kernel
theorem off4_eq : ∀ c : Dev nD, k0_off4 c = hoff c 1 := by decide +kernel
theorem off5_eq : ∀ c : Dev nD, k0_off5 c = soff c := by decide +kernel
theorem off6_eq : ∀ c : Dev nD, k0_off6 c = roff c := by decide +kernel
theorem off7_1_eq : ∀ c : Dev nD, k0_off7 c 1#32 = hoff (cw c) 0 := by decide +kernel
theorem off7_2_eq : ∀ c : Dev nD, k0_off7 c 2#32 = hoff (cw (cw c)) 0 := by decide +kernel
theorem off7_3_eq : ∀ c : Dev nD, k0_off7 c 3#32 = hoff (ccw c) 0 := by decide +kernel
theorem off8_eq : ∀ c : Dev nD, k0_off8 c = hoff (zp c) 0 := by decide +kernel
theorem off9_1_eq : ∀ c : Dev nD, k0_off9 c 1#32 = hoff (cw c) 1 := by decide +kernel
theorem off9_2_eq : ∀ c : Dev nD, k0_off9 c 2#32 = hoff (cw (cw c)) 1 := by decide +kernel
theorem off9_3_eq : ∀ c : Dev nD, k0_off9 c 3#32 = hoff (ccw c) 1 := by decide +kernel
theorem off10_eq : ∀ c : Dev nD, k0_off10 c = hoff (zp c) 1 := by decide +kernel
theorem off11_eq : ∀ c : Dev nD, k0_off11 c = soff (zp c) := by decide +kernel
theorem off12_eq : ∀ c : Dev nD, k0_off12 c = roff (zp c) := by decide +kernel
theorem off13_1_eq : ∀ c : Dev nD, k0_off13 c 1#32 = hoff (zp (cw c)) 1 := by decide +kernel
theorem off13_2_eq : ∀ c : Dev nD, k0_off13 c 2#32 = hoff (zp (cw (cw c))) 1 := by decide +kernel
theorem off13_3_eq : ∀ c : Dev nD, k0_off13 c 3#32 = hoff (zp (ccw c)) 1 := by decide +kernel
theorem off14_1_eq : ∀ c : Dev nD, k0_off14 c 1#32 = soff (cw c) := by decide +kernel
theorem off14_2_eq : ∀ c : Dev nD, k0_off14 c 2#32 = soff (cw (cw c)) := by decide +kernel
theorem off14_3_eq : ∀ c : Dev nD, k0_off14 c 3#32 = soff (ccw c) := by decide +kernel
theorem off15_1_eq : ∀ c : Dev nD, k0_off15 c 1#32 = roff (cw c) := by decide +kernel
theorem off15_2_eq : ∀ c : Dev nD, k0_off15 c 2#32 = roff (cw (cw c)) := by decide +kernel
theorem off15_3_eq : ∀ c : Dev nD, k0_off15 c 3#32 = roff (ccw c) := by decide +kernel
theorem off16_1_eq : ∀ c : Dev nD, k0_off16 c 1#32 = hoff (zp (cw c)) 0 := by decide +kernel
theorem off16_2_eq : ∀ c : Dev nD, k0_off16 c 2#32 = hoff (zp (cw (cw c))) 0 := by decide +kernel
theorem off16_3_eq : ∀ c : Dev nD, k0_off16 c 3#32 = hoff (zp (ccw c)) 0 := by decide +kernel
theorem off17_eq : ∀ c : Dev nD, k0_off17 c = soff (zp (cw c)) := by decide +kernel
theorem off18_1_eq : ∀ c : Dev nD, k0_off18 c 1#32 = roff (zp (cw c)) := by decide +kernel
theorem off18_2_eq : ∀ c : Dev nD, k0_off18 c 2#32 = roff (zp (cw (cw c))) := by decide +kernel
theorem off18_3_eq : ∀ c : Dev nD, k0_off18 c 3#32 = roff (zp (ccw c)) := by decide +kernel
theorem off19_2_eq : ∀ c : Dev nD, k0_off19 c 2#32 = hoff (zp (cw (cw c))) 0 := by decide +kernel
theorem off19_3_eq : ∀ c : Dev nD, k0_off19 c 3#32 = hoff (zp (ccw c)) 0 := by decide +kernel
theorem off20_2_eq : ∀ c : Dev nD, k0_off20 c 2#32 = hoff (zp (cw (cw c))) 1 := by decide +kernel
theorem off20_3_eq : ∀ c : Dev nD, k0_off20 c 3#32 = hoff (zp (ccw c)) 1 := by decide +kernel

/-! ## The buffers and the semaphores -/

abbrev xM : Memref sig .tc .vmem S512x4096 .f32 := Memref.whole cc0_stg0_0
abbrev wM : Memref sig .tc .hbm S4096x1024 .f32 := Memref.whole main_arg1
abbrev aM : Memref sig .tc .smem S1 .f32 := Memref.whole cc0_stg1_0
abbrev bM : Memref sig .tc .smem S1 .f32 := Memref.whole cc0_stg2_0
abbrev oM : Memref sig .tc .hbm S4096x1024 .f32 := Memref.whole main_v1
abbrev gM : Memref sig .tc .vmem S8x512x4096 .fp8e4m3 := Memref.whole cc0_scratch0
abbrev vM : Memref sig .tc .vmem S4096x1024 .fp8e5m2 := Memref.whole cc0_scratch1
abbrev wtM : Memref sig .tc .vmem S2x1024x1024 .f32 := Memref.whole cc0_scratch2
abbrev otM : Memref sig .tc .vmem S2x512x1024 .f32 := Memref.whole cc0_scratch3

/-- A slot of an array of semaphores, as the body names it. -/
abbrev sem14 (A : DmaSems sig S14) (t : Fin 14) (h : ∀ a, (![t.val] : Fin 1 → ℕ) a + S1.size a ≤ S14.size a) : DmaSem sig :=
  ((A.slice (Rect.unit (s := S14) ![t.val] S1.size h)).squeeze S_ squeezes_S1_S_).sem
theorem sem14_inb (t : Fin 14) : ∀ a, (![t.val] : Fin 1 → ℕ) a + S1.size a ≤ S14.size a := by revert t; decide
abbrev sendS (t : Fin 14) : DmaSem sig := sem14 cc0_scratch6 t (sem14_inb t)
abbrev recvS (t : Fin 14) : DmaSem sig := sem14 cc0_scratch7 t (sem14_inb t)
theorem sendS_val : ∀ t : Fin 14, (sendS t).val = 7 + t.val := by decide +kernel
theorem recvS_val : ∀ t : Fin 14, (recvS t).val = 21 + t.val := by decide +kernel
abbrev barS : Sem sig := sig.barrier 0 rfl

end Cert.GatherProof

end
-- ==== Proof.Regions.lean ====
/-
  The index sets of the body's slices: halves and slots of the gathered array, slots of the two double buffers, row
  blocks of the weights and of the result; what a write through a slice leaves.
-/
module

public import proofs.«01_k».proof.Proof.Geom

@[expose] public section

noncomputable section

namespace Cert.GatherProof

open Cert.KernelIdeal Cert.KernelIdeal.Gen
open Idealize.ShloMosaic
open Idealize.ShloMosaic.TcCoe
open Idealize.SL.Sem

/-! ## Writes through a view -/

section Write
variable {sig' : RefSig} {κ : Kind} {sp : Space} {s : Shape} {e : EltTy} {Val : EltTy → Type}

/-- What is written through a view agrees, on the view, with whatever contents read there as the values written. -/
theorem write_agree (v : View sig' κ sp s e) (f g : v.ty.Contents Val) (w : s.Idx → Val e) (h : w = v.read Val g) :
    ∀ i ∈ v.set, v.write Val f w Finset.univ i = g i := by
  intro i hi
  obtain ⟨x, -, rfl⟩ := Finset.mem_map.mp hi
  rw [View.write_emb_of_mem _ _ (Finset.mem_univ x), h, View.read_apply]
  simp
end Write

/-! ## The slices -/

theorem hoff_inb (s : Dev nD) (h : Fin 2) : ∀ a, hoff s h a + S1x256x4096.size a ≤ S8x512x4096.size a := by revert s h; decide +kernel
theorem soff_inb (s : Dev nD) : ∀ a, soff s a + S1x512x4096.size a ≤ S8x512x4096.size a := by revert s; decide +kernel
theorem roff_inb (s : Dev nD) : ∀ a, roff s a + S512x1024.size a ≤ S4096x1024.size a := by revert s; decide +kernel
theorem ooff_inb (p : Fin 2) : ∀ a, (![p.val, 0, 0] : Fin 3 → ℕ) a + S1x512x1024.size a ≤ S2x512x1024.size a := by revert p; decide +kernel
theorem ohoff_inb (p h : Fin 2) : ∀ a, (![p.val, 256 * h.val, 0] : Fin 3 → ℕ) a + S1x256x1024.size a ≤ S2x512x1024.size a := by revert p h; decide +kernel
theorem woff_inb (p : Fin 2) : ∀ a, (![p.val, 0, 0] : Fin 3 → ℕ) a + S1x1024x1024.size a ≤ S2x1024x1024.size a := by revert p; decide +kernel
theorem qoff_inb (q : Fin 4) : ∀ a, (![1024 * q.val, 0] : Fin 2 → ℕ) a + S1024x1024.size a ≤ S4096x1024.size a := by revert q; decide +kernel

/-- Half `h` of slot `s` of the gathered array; slot `s` whole. -/
abbrev hR (s : Dev nD) (h : Fin 2) : Rect S8x512x4096 := Rect.unit (s := S8x512x4096) (hoff s h) S1x256x4096.size (hoff_inb s h)
abbrev sR (s : Dev nD) : Rect S8x512x4096 := Rect.unit (s := S8x512x4096) (soff s) S1x512x4096.size (soff_inb s)
/-- The result rows of slot `s`. -/
abbrev rR (s : Dev nD) : Rect S4096x1024 := Rect.unit (s := S4096x1024) (roff s) S512x1024.size (roff_inb s)
/-- Slot `p` of the result double buffer, and its half `h`. -/
abbrev oR (p : Fin 2) : Rect S2x512x1024 := Rect.unit (s := S2x512x1024) ![p.val, 0, 0] S1x512x1024.size (ooff_inb p)
abbrev ohR (p h : Fin 2) : Rect S2x512x1024 := Rect.unit (s := S2x512x1024) ![p.val, 256 * h.val, 0] S1x256x1024.size (ohoff_inb p h)
/-- Slot `p` of the weights' double buffer. -/
abbrev wR (p : Fin 2) : Rect S2x1024x1024 := Rect.unit (s := S2x1024x1024) ![p.val, 0, 0] S1x1024x1024.size (woff_inb p)
/-- Row block `q` of the weights. -/
abbrev qR (q : Fin 4) : Rect S4096x1024 := Rect.unit (s := S4096x1024) ![1024 * q.val, 0] S1024x1024.size (qoff_inb q)

/-- The memrefs the copies name. -/
abbrev hM (s : Dev nD) (h : Fin 2) : Memref sig .tc .vmem S256x4096 .fp8e4m3 :=
  (gM.slice (hR s h) (fun _ => rfl)).squeeze S256x4096 squeezes_S1x256x4096_S256x4096
abbrev rM (s : Dev nD) : Memref sig .tc .hbm S512x1024 .f32 := oM.slice (rR s) (fun _ => rfl)
abbrev ocM (p : Fin 2) : Memref sig .tc .vmem S512x1024 .f32 := (otM.slice (oR p) (fun _ => rfl)).squeeze S512x1024 squeezes_S1x512x1024_S512x1024
abbrev wcM (p : Fin 2) : Memref sig .tc .vmem S1024x1024 .f32 := (wtM.slice (wR p) (fun _ => rfl)).squeeze S1024x1024 squeezes_S1x1024x1024_S1024x1024
abbrev qM (q : Fin 4) : Memref sig .tc .hbm S1024x1024 .f32 := wM.slice (qR q) (fun _ => rfl)

abbrev hset (s : Dev nD) (h : Fin 2) : Finset S8x512x4096.Idx := (hR s h).set
abbrev sset (s : Dev nD) : Finset S8x512x4096.Idx := (sR s).set
abbrev rset (s : Dev nD) : Finset S4096x1024.Idx := (rR s).set
abbrev oset (p : Fin 2) : Finset S2x512x1024.Idx := (oR p).set
abbrev wset (p : Fin 2) : Finset S2x1024x1024.Idx := (wR p).set
abbrev qset (q : Fin 4) : Finset S4096x1024.Idx := (qR q).set

theorem hM_set (s : Dev nD) (h : Fin 2) : (hM s h).view.set = hset s h := (View.set_reshape _ _).trans (View.set_slice_whole _ _)
theorem rM_set (s : Dev nD) : (rM s).view.set = rset s := View.set_slice_whole _ _
theorem ocM_set (p : Fin 2) : (ocM p).view.set = oset p := (View.set_reshape _ _).trans (View.set_slice_whole _ _)
theorem wcM_set (p : Fin 2) : (wcM p).view.set = wset p := (View.set_reshape _ _).trans (View.set_slice_whole _ _)
theorem qM_set (q : Fin 4) : (qM q).view.set = qset q := View.set_slice_whole _ _

theorem forall_fin3 {P : Fin 3 → Prop} : (∀ a, P a) ↔ P 0 ∧ P 1 ∧ P 2 :=
  ⟨fun h => ⟨h 0, h 1, h 2⟩, fun h a => match a with | 0 => h.1 | 1 => h.2.1 | 2 => h.2.2⟩
theorem forall_fin2 {P : Fin 2 → Prop} : (∀ a, P a) ↔ P 0 ∧ P 1 :=
  ⟨fun h => ⟨h 0, h 1⟩, fun h a => match a with | 0 => h.1 | 1 => h.2⟩

theorem mem_hset (s : Dev nD) (h : Fin 2) (i : S8x512x4096.Idx) : i ∈ hset s h ↔ (i 0).val = s.val ∧ 256 * h.val ≤ (i 1).val ∧ (i 1).val < 256 * h.val + 256 := by
  have h0 := (i 0).isLt
  have h1 := (i 1).isLt
  have h2 := (i 2).isLt
  rw [Rect.mem_set_unit, forall_fin3]
  change ((s.val ≤ (i 0).val ∧ (i 0).val < s.val + 1) ∧ (256 * h.val ≤ (i 1).val ∧ (i 1).val < 256 * h.val + 256) ∧ (0 ≤ (i 2).val ∧ (i 2).val < 0 + 4096)) ↔ _
  change (i 1).val < 512 at h1
  change (i 2).val < 4096 at h2
  omega

theorem mem_sset (s : Dev nD) (i : S8x512x4096.Idx) : i ∈ sset s ↔ (i 0).val = s.val := by
  have h0 := (i 0).isLt
  have h1 := (i 1).isLt
  have h2 := (i 2).isLt
  rw [Rect.mem_set_unit, forall_fin3]
  change ((s.val ≤ (i 0).val ∧ (i 0).val < s.val + 1) ∧ (0 ≤ (i 1).val ∧ (i 1).val < 0 + 512) ∧ (0 ≤ (i 2).val ∧ (i 2).val < 0 + 4096)) ↔ _
  change (i 1).val < 512 at h1
  change (i 2).val < 4096 at h2
  omega

theorem mem_rset (s : Dev nD) (i : S4096x1024.Idx) : i ∈ rset s ↔ 512 * s.val ≤ (i 0).val ∧ (i 0).val < 512 * s.val + 512 := by
  have h1 := (i 1).isLt
  rw [Rect.mem_set_unit, forall_fin2]
  change ((512 * s.val ≤ (i 0).val ∧ (i 0).val < 512 * s.val + 512) ∧ (0 ≤ (i 1).val ∧ (i 1).val < 0 + 1024)) ↔ _
  change (i 1).val < 1024 at h1
  omega

theorem mem_oset (p : Fin 2) (i : S2x512x1024.Idx) : i ∈ oset p ↔ (i 0).val = p.val := by
  have h0 := (i 0).isLt
  have h1 := (i 1).isLt
  have h2 := (i 2).isLt
  rw [Rect.mem_set_unit, forall_fin3]
  change ((p.val ≤ (i 0).val ∧ (i 0).val < p.val + 1) ∧ (0 ≤ (i 1).val ∧ (i 1).val < 0 + 512) ∧ (0 ≤ (i 2).val ∧ (i 2).val < 0 + 1024)) ↔ _
  change (i 1).val < 512 at h1
  change (i 2).val < 1024 at h2
  omega

theorem mem_ohset (p h : Fin 2) (i : S2x512x1024.Idx) : i ∈ (ohR p h).set ↔ (i 0).val = p.val ∧ 256 * h.val ≤ (i 1).val ∧ (i 1).val < 256 * h.val + 256 := by
  have h0 := (i 0).isLt
  have h1 := (i 1).isLt
  have h2 := (i 2).isLt
  rw [Rect.mem_set_unit, forall_fin3]
  change ((p.val ≤ (i 0).val ∧ (i 0).val < p.val + 1) ∧ (256 * h.val ≤ (i 1).val ∧ (i 1).val < 256 * h.val + 256) ∧ (0 ≤ (i 2).val ∧ (i 2).val < 0 + 1024)) ↔ _
  change (i 1).val < 512 at h1
  change (i 2).val < 1024 at h2
  omega

theorem mem_wset (p : Fin 2) (i : S2x1024x1024.Idx) : i ∈ wset p ↔ (i 0).val = p.val := by
  have h0 := (i 0).isLt
  have h1 := (i 1).isLt
  have h2 := (i 2).isLt
  rw [Rect.mem_set_unit, forall_fin3]
  change ((p.val ≤ (i 0).val ∧ (i 0).val < p.val + 1) ∧ (0 ≤ (i 1).val ∧ (i 1).val < 0 + 1024) ∧ (0 ≤ (i 2).val ∧ (i 2).val < 0 + 1024)) ↔ _
  change (i 1).val < 1024 at h1
  change (i 2).val < 1024 at h2
  omega

theorem mem_qset (q : Fin 4) (i : S4096x1024.Idx) : i ∈ qset q ↔ 1024 * q.val ≤ (i 0).val ∧ (i 0).val < 1024 * q.val + 1024 := by
  have h1 := (i 1).isLt
  rw [Rect.mem_set_unit, forall_fin2]
  change ((1024 * q.val ≤ (i 0).val ∧ (i 0).val < 1024 * q.val + 1024) ∧ (0 ≤ (i 1).val ∧ (i 1).val < 0 + 1024)) ↔ _
  change (i 1).val < 1024 at h1
  omega

/-! ## Disjoint and covering -/

theorem hset_disjoint {s s' : Dev nD} {h h' : Fin 2} (hne : (s, h) ≠ (s', h')) : Disjoint (hset s h) (hset s' h') := by
  rw [Finset.disjoint_left]; intro i hi hi'
  rw [mem_hset] at hi hi'
  exact hne (Prod.ext (Fin.ext (hi.1.symm.trans hi'.1)) (Fin.ext (by simp only; omega)))
theorem sset_eq (s : Dev nD) : hset s 0 ∪ hset s 1 = sset s := by
  ext i; rw [Finset.mem_union, mem_hset, mem_hset, mem_sset]
  have h1 : (i 1).val < 512 := (i 1).isLt
  simp only [Fin.val_zero, Fin.val_one]; omega
theorem hset_cover (c : Dev nD) : (Finset.univ : Finset (Fin 16)).biUnion (fun k => hset (reg c k).1 (reg c k).2) = Finset.univ := by
  ext i; simp only [Finset.mem_biUnion, Finset.mem_univ, true_and, iff_true]
  have h1 : (i 1).val < 512 := (i 1).isLt
  obtain ⟨k, hk⟩ := reg_surj c (⟨(i 0).val, (i 0).isLt⟩, ⟨(i 1).val / 256, by omega⟩)
  refine ⟨k, ?_⟩
  rw [hk, mem_hset]; refine ⟨rfl, ?_, ?_⟩ <;> simp only <;> omega
theorem hset_pairwise (c : Dev nD) : ∀ k ∈ (Finset.univ : Finset (Fin 16)), ∀ k' ∈ (Finset.univ : Finset (Fin 16)), k ≠ k' →
    Disjoint (hset (reg c k).1 (reg c k).2) (hset (reg c k').1 (reg c k').2) :=
  fun k _ k' _ hne => hset_disjoint fun h => hne (reg_inj c k k' h)

theorem rset_cover : (Finset.univ : Finset (Dev nD)).biUnion rset = Finset.univ := by
  ext i; simp only [Finset.mem_biUnion, Finset.mem_univ, true_and, iff_true]
  have h0 : (i 0).val < 4096 := (i 0).isLt
  exact ⟨⟨(i 0).val / 512, by simp only [nD]; omega⟩, by rw [mem_rset]; simp only; omega⟩
theorem rset_pairwise : ∀ k ∈ (Finset.univ : Finset (Dev nD)), ∀ k' ∈ (Finset.univ : Finset (Dev nD)), k ≠ k' → Disjoint (rset k) (rset k') := by
  intro k _ k' _ hne
  rw [Finset.disjoint_left]; intro i hi hi'
  rw [mem_rset] at hi hi'; exact hne (Fin.ext (by omega))
theorem qset_cover : (Finset.univ : Finset (Fin 4)).biUnion qset = Finset.univ := by
  ext i; simp only [Finset.mem_biUnion, Finset.mem_univ, true_and, iff_true]
  have h0 : (i 0).val < 4096 := (i 0).isLt
  exact ⟨⟨(i 0).val / 1024, by omega⟩, by rw [mem_qset]; simp only; omega⟩
theorem qset_pairwise : ∀ k ∈ (Finset.univ : Finset (Fin 4)), ∀ k' ∈ (Finset.univ : Finset (Fin 4)), k ≠ k' → Disjoint (qset k) (qset k') := by
  intro k _ k' _ hne
  rw [Finset.disjoint_left]; intro i hi hi'
  rw [mem_qset] at hi hi'; exact hne (Fin.ext (by omega))
theorem oset_cover : (Finset.univ : Finset (Fin 2)).biUnion oset = Finset.univ := by
  ext i; simp only [Finset.mem_biUnion, Finset.mem_univ, true_and, iff_true]
  exact ⟨⟨(i 0).val, (i 0).isLt⟩, by rw [mem_oset]⟩
theorem oset_pairwise : ∀ k ∈ (Finset.univ : Finset (Fin 2)), ∀ k' ∈ (Finset.univ : Finset (Fin 2)), k ≠ k' → Disjoint (oset k) (oset k') := by
  intro k _ k' _ hne
  rw [Finset.disjoint_left]; intro i hi hi'
  rw [mem_oset] at hi hi'; exact hne (Fin.ext (by omega))
theorem wset_cover : (Finset.univ : Finset (Fin 2)).biUnion wset = Finset.univ := by
  ext i; simp only [Finset.mem_biUnion, Finset.mem_univ, true_and, iff_true]
  exact ⟨⟨(i 0).val, (i 0).isLt⟩, by rw [mem_wset]⟩
theorem wset_pairwise : ∀ k ∈ (Finset.univ : Finset (Fin 2)), ∀ k' ∈ (Finset.univ : Finset (Fin 2)), k ≠ k' → Disjoint (wset k) (wset k') := by
  intro k _ k' _ hne
  rw [Finset.disjoint_left]; intro i hi hi'
  rw [mem_wset] at hi hi'; exact hne (Fin.ext (by omega))

end Cert.GatherProof

end
-- ==== Proof.Contents.lean ====
/-
  What every buffer holds: the gathered array (slot `s` the narrowed block of `x` of device `s`), the narrowed weights, the tiles of
  the result and the whole result; and that each store and landing of the body writes exactly that.
-/
module

public import proofs.«01_k».proof.Proof.Regions
public import Idealize.ShloMosaic.Lib.Pipeline.Value

@[expose] public section

noncomputable section

namespace Cert.GatherProof

open Cert.KernelIdeal Cert.KernelIdeal.Gen
open Idealize.ShloMosaic
open Idealize.ShloMosaic.TcCoe
open Idealize.ShloMosaic.Pipeline
open Idealize.SL.Sem

variable {F : FTy → Type} [FloatOps F]

variable (m : (ℓ : Loc nD τ sig) → Buf (Elt F) ℓ)

/-- Device `c`'s block of `x`, its two scales and its block of the weights, as the body finds them. -/
def xs (c : Dev nD) : (cc0_stg0_0 : Ref sig .tc).ty.Contents (Elt F) :=
  (win0_0.blk (0 : Fin 1)).view.read (Elt F) (m ((c : Thread nD τ).loc main_arg0))
def sx (c : Dev nD) : (cc0_stg1_0 : Ref sig .tc).ty.Contents (Elt F) :=
  (win0_1.blk (0 : Fin 1)).view.read (Elt F) (m ((c : Thread nD τ).loc main_arg2))
def sw (c : Dev nD) : (cc0_stg2_0 : Ref sig .tc).ty.Contents (Elt F) :=
  (win0_2.blk (0 : Fin 1)).view.read (Elt F) (m ((c : Thread nD τ).loc main_arg3))
def ws (c : Dev nD) : (main_arg1 : Ref sig .tc).ty.Contents (Elt F) := m ((c : Thread nD τ).loc main_arg1)

/-- The gathered array: the same on every device. -/
def XF : (cc0_scratch0 : Ref sig .tc).ty.Contents (Elt F) := fun i =>
  (truncf .fp8e4m3 (xs m (i 0) : FVec F S512x4096 .f32) bitsLt_fp8e4m3_f32 : FVec F S512x4096 .fp8e4m3) (fun a => i a.succ)
/-- The narrowed weights of device `c`. -/
def W8 (c : Dev nD) : (cc0_scratch1 : Ref sig .tc).ty.Contents (Elt F) :=
  (truncf .fp8e5m2 (ws m c : FVec F S4096x1024 .f32) bitsLt_fp8e5m2_f32 : FVec F S4096x1024 .fp8e5m2)
/-- A slot of the weights' double buffer, row block `q` landed in it. -/
def WT (c : Dev nD) (q : Fin 4) : (cc0_scratch2 : Ref sig .tc).ty.Contents (Elt F) := fun i =>
  (ws m c : FVec F S4096x1024 .f32) (fun a => match a with
    | 0 => ⟨1024 * q.val + (i 1).val, by have := q.isLt; have h : (i 1).val < 1024 := (i 1).isLt; show _ < 4096; omega⟩
    | 1 => ⟨(i 2).val, (i 2).isLt⟩)

/-! ## The stores -/

theorem xhoff_inb (h : Fin 2) : ∀ a, (![256 * h.val, 0] : Fin 2 → ℕ) a + S256x4096.size a ≤ S512x4096.size a := by revert h; decide +kernel
abbrev xR (h : Fin 2) : Rect S512x4096 := Rect.unit (s := S512x4096) ![256 * h.val, 0] S256x4096.size (xhoff_inb h)

/-- The half of its block of `x` a device stores is that half of its slot. -/
theorem store_x (c : Dev nD) (h : Fin 2) :
    (k0_pay2 (xM.view.readAt (Elt F) (xR h).toLoadRect (xs m c)) : FVec F S1x256x4096 .fp8e4m3) = (gM.access (hR c h)).read (Elt F) (XF m) := by
  funext y
  have y0 : (y 0).val = 0 := by have := (y 0).isLt; change _ < 1 at this; omega
  unfold k0_pay2
  refine (shapeCast_addUnit_apply ![256, 4096] _ _ y).trans ?_
  rw [shapeCast_self]
  have e0 : (((gM.access (hR c h)).emb y) 0 : Dev nD) = c := Fin.ext (by
    show c.val + 1 * (y 0).val = c.val; omega)
  show FloatOps.truncf (F := F) .fp8e4m3 _ (xs m c _) = FloatOps.truncf (F := F) .fp8e4m3 _ (xs m (((gM.access (hR c h)).emb y) 0) _)
  rw [e0]
  congr 2

/-- The row block of the weights a copy brings. -/
theorem land_w (c : Dev nD) (q : Fin 4) (p : Fin 2) : (qM q).view.read (Elt F) (ws m c) = (wcM p).view.read (Elt F) (WT m c q) := by
  funext y
  refine Eq.trans ?_ (shapeCast_dropUnit_apply ![1024, 1024] (wtM.view.readAt (Elt F) (wR p).toLoadRect (WT m c q)) shapeCasts_S1x1024x1024_S1024x1024 y).symm
  show ws m c _ = ws m c _
  congr 1
  funext a
  match a with
  | 0 => exact Fin.ext (by show 1024 * q.val + 1 * (y 0).val = 1024 * q.val + (0 + 1 * (y 0).val); omega)
  | 1 => exact Fin.ext (by show 0 + 1 * (y 1).val = 0 + 1 * (y 1).val; omega)

theorem store_w (c : Dev nD) (q : Fin 4) (p : Fin 2) :
    (k0_pay4 (wtM.view.readAt (Elt F) (wR p).toLoadRect (WT m c q)) : FVec F S1024x1024 .fp8e5m2) = (vM.access (qR q)).read (Elt F) (W8 m c) := by
  funext y
  unfold k0_pay4
  rw [shapeCast_self]
  show FloatOps.truncf (F := F) .fp8e5m2 _ (shapeCast S1024x1024 _ _ y) = FloatOps.truncf (F := F) .fp8e5m2 _ (ws m c _)
  congr 1
  refine (shapeCast_dropUnit_apply ![1024, 1024] _ _ y).trans ?_
  show ws m c _ = ws m c _
  congr 1
  funext a
  match a with
  | 0 => exact Fin.ext (by show 1024 * q.val + (0 + 1 * (y 0).val) = 1024 * q.val + 1 * (y 0).val; omega)
  | 1 => exact Fin.ext (by show 0 + 1 * (y 1).val = 0 + 1 * (y 1).val; omega)

/-! ## The tiles -/

/-- The one index of a scale, and the product of the two scales. -/
def i1 : S1.Idx := fun a => match a with
  | 0 => ⟨0, Nat.one_pos⟩
def scale (c : Dev nD) : F .f32 := k0_pay1 (sx m c i1) (sw m c i1)

abbrev vR : Rect S4096x1024 := Rect.unit (s := S4096x1024) ![0, 0] S4096x1024.size inb_S4096x1024_S4096x1024_0_0
/-- The weights as the body loads them; a slot and a half slot of the gathered array as it loads them. -/
def w8v (c : Dev nD) : Vec F S4096x1024 .fp8e5m2 := vM.view.readAt (Elt F) vR.toLoadRect (W8 m c)
def sv (s : Dev nD) : Vec F S1x512x4096 .fp8e4m3 := gM.view.readAt (Elt F) (sR s).toLoadRect (XF m)
def hv (s : Dev nD) (h : Fin 2) : Vec F S1x256x4096 .fp8e4m3 := gM.view.readAt (Elt F) (hR s h).toLoadRect (XF m)

/-- The tile computed from a whole slot, from a half slot, and the two halves put together. -/
def tile1 (c s : Dev nD) : FVec F S1x512x1024 .f32 := k0_pay8 (scale m c) (sv m s) (w8v m c)
def htile (c s : Dev nD) (h : Fin 2) : FVec F S1x256x1024 .f32 := k0_pay20 (scale m c) (hv m s h) (w8v m c)
def tile2 (c s : Dev nD) : FVec F S1x512x1024 .f32 := fun i =>
  htile m c s (if (i 1).val < 256 then 0 else 1) (fun a => match a with
    | 0 => ⟨0, Nat.one_pos⟩
    | 1 => ⟨(i 1).val % 256, Nat.mod_lt _ (by decide)⟩
    | 2 => ⟨(i 2).val, (i 2).isLt⟩)
/-- The slots whose tile is computed by halves on device `c`. -/
def halved (c s : Dev nD) : Prop := s = zp (ccw c) ∨ s = zp (cw (cw c))
instance (c s : Dev nD) : Decidable (halved c s) := by unfold halved; infer_instance
def tile (c s : Dev nD) : FVec F S1x512x1024 .f32 := if halved c s then tile2 m c s else tile1 m c s

/-- A slot of the result double buffer holding `w`. -/
def OT (w : FVec F S1x512x1024 .f32) : (cc0_scratch3 : Ref sig .tc).ty.Contents (Elt F) := fun i =>
  w (fun a => match a with
    | 0 => ⟨0, Nat.one_pos⟩
    | 1 => ⟨(i 1).val, (i 1).isLt⟩
    | 2 => ⟨(i 2).val, (i 2).isLt⟩)
/-- The result on device `c`. -/
def OUT (c : Dev nD) : (main_v1 : Ref sig .tc).ty.Contents (Elt F) := fun i =>
  tile m c ⟨(i 0).val / 512, by have h : (i 0).val < 4096 := (i 0).isLt; simp only [nD]; omega⟩ (fun a => match a with
    | 0 => ⟨0, Nat.one_pos⟩
    | 1 => ⟨(i 0).val % 512, Nat.mod_lt _ (by decide)⟩
    | 2 => ⟨(i 1).val, (i 1).isLt⟩)

theorem store_o (w : FVec F S1x512x1024 .f32) (p : Fin 2) : w = (otM.access (oR p)).read (Elt F) (OT w) := by
  funext y
  have y0 : (y 0).val = 0 := by have := (y 0).isLt; change _ < 1 at this; omega
  show w y = w _
  congr 1
  funext a
  match a with
  | 0 => exact Fin.ext y0
  | 1 => exact Fin.ext (by show (y 1).val = 0 + 1 * (y 1).val; omega)
  | 2 => exact Fin.ext (by show (y 2).val = 0 + 1 * (y 2).val; omega)

theorem store_oh (c s : Dev nD) (p h : Fin 2) : htile m c s h = (otM.access (ohR p h)).read (Elt F) (OT (tile2 m c s)) := by
  funext y
  have y0 : (y 0).val = 0 := by have := (y 0).isLt; change _ < 1 at this; omega
  have y1 : (y 1).val < 256 := (y 1).isLt
  show htile m c s h y = htile m c s (if 256 * h.val + 1 * (y 1).val < 256 then 0 else 1) _
  have hh : (if 256 * h.val + 1 * (y 1).val < 256 then (0 : Fin 2) else 1) = h := by
    match h with
    | 0 => exact if_pos (by simp only [Fin.val_zero]; omega)
    | 1 => exact if_neg (by simp only [Fin.val_one]; omega)
  rw [hh]
  congr 1
  funext a
  match a with
  | 0 => exact Fin.ext y0
  | 1 => exact Fin.ext (by show (y 1).val = (256 * h.val + 1 * (y 1).val) % 256; omega)
  | 2 => exact Fin.ext (by show (y 2).val = 0 + 1 * (y 2).val; omega)

/-- The tile of slot `s`, copied out, is the result's rows of slot `s`. -/
theorem land_o (c s : Dev nD) (p : Fin 2) : (ocM p).view.read (Elt F) (OT (tile m c s)) = (rM s).view.read (Elt F) (OUT m c) := by
  funext y
  have y0 : (y 0).val < 512 := (y 0).isLt
  refine (shapeCast_dropUnit_apply ![512, 1024] (otM.view.readAt (Elt F) (oR p).toLoadRect (OT (tile m c s))) shapeCasts_S1x512x1024_S512x1024 y).trans ?_
  have hs : (⟨(512 * s.val + 1 * (y 0).val) / 512, by have := s.isLt; simp only [nD] at this ⊢; omega⟩ : Dev nD) = s := Fin.ext (by
    show (512 * s.val + 1 * (y 0).val) / 512 = s.val; omega)
  show tile m c s _ = tile m c ⟨(512 * s.val + 1 * (y 0).val) / 512, _⟩ _
  rw [hs]
  congr 1
  funext a
  match a with
  | 0 => rfl
  | 1 => exact Fin.ext (by show 0 + 1 * (y 0).val = (512 * s.val + 1 * (y 0).val) % 512; omega)
  | 2 => exact Fin.ext (by show 0 + 1 * (y 1).val = 0 + 1 * (y 1).val; omega)

end Cert.GatherProof

end
-- ==== Proof.Protocol.lean ====
/-
  The protocol. A device `c` has one barrier cell, fourteen send cells and fourteen receive cells.

    cell            waited by        raised by                              amount   handed over
    barrier of c    c, once, for 3   each neighbour, one signal each        1        duty `w`, raised by the neighbour `nb w c`: its regions that
                                                                                     `c`'s copies going that way land in, at any contents
    send t of c     c, at the end    `c`'s own copy `t`, when it was read   N        the share of the region copy `t` reads
    receive t of c  c, before use    copy `t` of `src t c`, when it landed  N        the landing region at the gathered array's contents

  A device signals its three neighbours, waits for their signals, then sends in the order `order`; what it still owes is a list of
  copies. The levels: barrier 1; the copies of its own slot 2; those forwarding one of these 3; those forwarding one of those 4; all else 0.
-/
module

public import proofs.«01_k».proof.Proof.Contents
public import Idealize.ShloMosaic.Lib.Transfers
public import Idealize.ShloMosaic.Lib.Rounds

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The cells -/

/-- A cell of the protocol on a device: the barrier, a send cell (`false`) or a receive cell (`true`). -/
abbrev CI : Type := Option (Bool × Fin 14)
def csem : CI → SemLoc sig
  | none => .reg barS
  | some (false, t) => .dma (sendS t)
  | some (true, t) => .dma (recvS t)
/-- Which cell a semaphore is. -/
def ci : SemLoc sig → Option CI
  | .dma q => if h : 7 ≤ q.val ∧ q.val < 21 then some (some (false, ⟨q.val - 7, by omega⟩))
      else if h : 21 ≤ q.val ∧ q.val < 35 then some (some (true, ⟨q.val - 21, by omega⟩)) else none
  | .reg s => if s = barS then some none else none

theorem ci_bar : ci (.reg barS) = some none := by unfold ci; dsimp only; exact if_pos rfl
theorem ci_send (t : Fin 14) : ci (.dma (sendS t)) = some (some (false, t)) := by
  have h := sendS_val t
  have ht := t.isLt
  unfold ci; dsimp only
  rw [dif_pos ⟨by omega, by omega⟩]
  exact congrArg some (congrArg some (Prod.ext rfl (Fin.ext (by show (sendS t).val - 7 = t.val; omega))))
theorem ci_recv (t : Fin 14) : ci (.dma (recvS t)) = some (some (true, t)) := by
  have h := recvS_val t
  have ht := t.isLt
  unfold ci; dsimp only
  rw [dif_neg (by omega), dif_pos ⟨by omega, by omega⟩]
  exact congrArg some (congrArg some (Prod.ext rfl (Fin.ext (by show (recvS t).val - 21 = t.val; omega))))
theorem ci_csem : ∀ i, ci (csem i) = some i
  | none => ci_bar
  | some (false, t) => ci_send t
  | some (true, t) => ci_recv t

abbrev kcell (p : Dev nD × CI) : GSem nD τ sig := ((p.1 : Thread nD τ), csem p.2)
abbrev barCell (c : Dev nD) : GSem nD τ sig := ((c : Thread nD τ), .reg barS)
abbrev sendCell (c : Dev nD) (t : Fin 14) : GSem nD τ sig := ((c : Thread nD τ), .dma (sendS t))
abbrev recvCell (c : Dev nD) (t : Fin 14) : GSem nD τ sig := ((c : Thread nD τ), .dma (recvS t))

/-- The credit of one copy. -/
abbrev N : ℕ := (hM 0 0).view.dmaCredit
theorem N_pos : 0 < N := View.dmaCredit_pos _ (by decide)

/-! ## Regions and shares -/

/-- Region `(s, h)` of device `c`'s gathered array, at the gathered contents; at any contents. -/
def Reg (c s : Dev nD) (h : Fin 2) (q : PosShare TreeShare) : sProp 𝕄 := ((c : Thread nD τ).loc cc0_scratch0) ↦[hset s h]{q} XF m
def RegAny (c s : Dev nD) (h : Fin 2) : sProp 𝕄 := iprop(∃ f : Buf (Elt F) ((c : Thread nD τ).loc cc0_scratch0), ((c : Thread nD τ).loc cc0_scratch0) ↦[hset s h]{fullShare} f)

omit [FloatOps F] in
instance RegAny_storable (c s : Dev nD) (h : Fin 2) : BI.Storable (upEmb : UEmb _ 𝕄) (RegAny (F := F) c s h) := by unfold RegAny; infer_instance
instance Reg_storable (c s : Dev nD) (h : Fin 2) (q) : BI.Storable (upEmb : UEmb _ 𝕄) (Reg m c s h q) := by unfold Reg; infer_instance

abbrev qA : PosShare TreeShare := fullShare.left.left
abbrev qB : PosShare TreeShare := fullShare.left.right
abbrev qC : PosShare TreeShare := fullShare.right.left
abbrev qL : PosShare TreeShare := fullShare.right.right

/-- The share of its source that copy `t` reads. -/
def shr (t : Fin 14) : PosShare TreeShare :=
  if t.val = 9 ∨ t.val = 10 then qC else if t.val = 5 ∨ t.val = 6 ∨ t.val = 8 ∨ t.val = 11 then qB else qA

theorem reg_four (c s : Dev nD) (h : Fin 2) : Reg m c s h fullShare ⊣⊢ iprop(Reg m c s h qA ∗ Reg m c s h qB ∗ Reg m c s h qC ∗ Reg m c s h qL) := by
  unfold Reg
  have h1 := pointsTo_share (ℓ := (c : Thread nD τ).loc cc0_scratch0) (I := hset s h) (f := XF m) (Ix := Unit) (Name := ℕ) (U := UU) (Lvl := ℕ) (PosShare.mem_left_op_right fullShare)
  have h2 := pointsTo_share (ℓ := (c : Thread nD τ).loc cc0_scratch0) (I := hset s h) (f := XF m) (Ix := Unit) (Name := ℕ) (U := UU) (Lvl := ℕ) (PosShare.mem_left_op_right fullShare.left)
  have h3 := pointsTo_share (ℓ := (c : Thread nD τ).loc cc0_scratch0) (I := hset s h) (f := XF m) (Ix := Unit) (Name := ℕ) (U := UU) (Lvl := ℕ) (PosShare.mem_left_op_right fullShare.right)
  constructor
  · iintro H
    ihave H := h1.1 $$ H
    icases H with ⟨Hl, Hr⟩
    ihave Hl := h2.1 $$ Hl
    ihave Hr := h3.1 $$ Hr
    icases Hl with ⟨Ha, Hb⟩
    icases Hr with ⟨Hc, Hd⟩
    isplitl [Ha]; · iexact Ha
    isplitl [Hb]; · iexact Hb
    isplitl [Hc] <;> iassumption
  · iintro ⟨Ha, Hb, Hc, Hd⟩
    iapply h1.2
    isplitl [Ha Hb]
    · iapply h2.2
      isplitl [Ha] <;> iassumption
    · iapply h3.2
      isplitl [Hc] <;> iassumption

/-! ## The schedule -/

/-- The region of the neighbour that `c`'s copy `t` lands in. -/
abbrev Land (c : Dev nD) (t : Fin 14) : sProp 𝕄 := RegAny (dst t c) (slot t c) (half t)

/-- What the neighbour `nb w c` hands `c` with its signal. -/
def barPay (c : Dev nD) (w : Fin 3) : sProp 𝕄 :=
  if w = 0 then iprop(Land c 0 ∗ Land c 1 ∗ Land c 2 ∗ Land c 3 ∗ Land c 4)
  else if w = 1 then iprop(Land c 5 ∗ Land c 6 ∗ Land c 7 ∗ Land c 8 ∗ Land c 13)
  else iprop(Land c 9 ∗ Land c 10 ∗ Land c 11 ∗ Land c 12)
def sendPay (c : Dev nD) (t : Fin 14) : sProp 𝕄 := Reg m c (slot t c) (half t) (shr t)
def recvPay (c : Dev nD) (t : Fin 14) : sProp 𝕄 := Reg m c (inSlot t c) (half t) fullShare

def Rd : Rounds.Schedule (GSem nD τ sig) (Fin 3) 𝕄 where
  duties g r := if r = 0 ∧ g.1.2 = .tc then (match ci g.2 with
      | none => ∅
      | some none => Finset.univ
      | some (some _) => {0}) else ∅
  unitless _ := False
  amount g _ _ := if g.2 = .reg barS then 1 else N
  payload g _ d := match ci g.2 with
    | none => iprop(emp)
    | some none => barPay g.1.1 d
    | some (some (false, t)) => sendPay m g.1.1 t
    | some (some (true, t)) => recvPay m g.1.1 t
  amount_pos g _ _ _ := by
    by_cases h : g.2 = .reg barS
    · rw [if_pos h]; exact Nat.one_pos
    · rw [if_neg h]; exact N_pos

instance Rd_payload_storable (g : GSem nD τ sig) (r : ℕ) (d : Fin 3) : BI.Storable (upEmb : UEmb _ 𝕄) ((Rd m).payload g r d) := by
  dsimp only [Rd]
  rcases ci g.2 with _ | _ | ⟨_ | _, t⟩ <;> dsimp only
  · infer_instance
  · unfold barPay
    (repeat' split) <;> infer_instance
  · unfold sendPay; infer_instance
  · unfold recvPay; infer_instance

section Sched
variable (c : Dev nD) (t : Fin 14)

theorem duties_bar : (Rd m).duties (barCell c) 0 = Finset.univ := by dsimp only [Rd]; rw [if_pos ⟨rfl, rfl⟩, ci_bar]
theorem duties_send : (Rd m).duties (sendCell c t) 0 = {0} := by dsimp only [Rd]; rw [if_pos ⟨rfl, rfl⟩, ci_send]
theorem duties_recv : (Rd m).duties (recvCell c t) 0 = {0} := by dsimp only [Rd]; rw [if_pos ⟨rfl, rfl⟩, ci_recv]
theorem duties_later (g : GSem nD τ sig) : ∀ r, 1 ≤ r → (Rd m).duties g r = ∅ := fun r hr => by
  dsimp only [Rd]; rw [if_neg fun h => by omega]
theorem amount_bar (d : Fin 3) : (Rd m).amount (barCell c) 0 d = 1 := by dsimp only [Rd]; exact if_pos rfl
theorem amount_send (d : Fin 3) : (Rd m).amount (sendCell c t) 0 d = N := by dsimp only [Rd]; exact if_neg (fun h => by cases h)
theorem amount_recv (d : Fin 3) : (Rd m).amount (recvCell c t) 0 d = N := by dsimp only [Rd]; exact if_neg (fun h => by cases h)
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd m).expect (sendCell c t) 0 = N := by
  unfold Schedule.expect Schedule.amountOf; rw [duties_send, Finset.sum_singleton, amount_send]
theorem expect_recv : (Rd m).expect (recvCell c t) 0 = N := by
  unfold Schedule.expect Schedule.amountOf; rw [duties_recv, Finset.sum_singleton, amount_recv]
theorem payload_bar (w : Fin 3) : (Rd m).payload (barCell c) 0 w = barPay c w := by dsimp only [Rd]; rw [ci_bar]
theorem payload_send (d : Fin 3) : (Rd m).payload (sendCell c t) 0 d = sendPay m c t := by dsimp only [Rd]; rw [ci_send]
theorem payload_recv (d : Fin 3) : (Rd m).payload (recvCell c t) 0 d = recvPay m c t := by dsimp only [Rd]; rw [ci_recv]

theorem rest_bar : bigSep ((Rd m).duties (barCell c) 0 \ ∅) (fun d => (Rd m).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((Rd m).duties (sendCell c t) 0 \ ∅) (fun d => (Rd m).payload (sendCell c t) 0 d) = sendPay m c t := by
  rw [Finset.sdiff_empty, duties_send, bigSep_singleton, payload_send]
theorem rest_recv : bigSep ((Rd m).duties (recvCell c t) 0 \ ∅) (fun d => (Rd m).payload (recvCell c t) 0 d) = recvPay m c t := by
  rw [Finset.sdiff_empty, duties_recv, bigSep_singleton, payload_recv]
end Sched

/-! ## What is owed, and the levels -/

/-- The order of the sends. -/
abbrev order : List (Fin 14) := [0, 5, 9, 1, 6, 10, 2, 3, 8, 7, 11, 4, 12, 13]

/-- The credit device `c` owes the receive cells of the copies in a list. -/
def OwS (c : Dev nD) : List (Fin 14) → CellTallies nD τ sig Unit
  | [] => 0
  | t :: l => OwS c l + tallyAt (recvCell (dst t c) t) () N
def O₂ (c : Dev nD) : CellTallies nD τ sig Unit := OwS c order + tallyAt (barCell (bn 2 c)) () 1
def O₁ (c : Dev nD) : CellTallies nD τ sig Unit := O₂ c + tallyAt (barCell (bn 0 c)) () 1
/-- All a device owes at launch: its copies and its three signals. -/
def O₀ (c : Dev nD) : CellTallies nD τ sig Unit := O₁ c + tallyAt (barCell (bn 1 c)) () 1

def rlev (t : Fin 14) : ℕ :=
  if t.val = 0 ∨ t.val = 1 ∨ t.val = 5 ∨ t.val = 6 ∨ t.val = 9 ∨ t.val = 10 then 2 else if t.val = 12 ∨ t.val = 13 then 4 else 3
def slev (s : SemLoc sig) : ℕ := match ci s with
  | some none => 1
  | some (some (true, t)) => rlev t
  | _ => 0
def L (g : GSem nD τ sig) : Finset Unit := if g.1.2 = .tc then {()} else ∅
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl
theorem slev_bar : slev (.reg barS) = 1 := by unfold slev; rw [ci_bar]
theorem slev_recv (t : Fin 14) : slev (.dma (recvS t)) = rlev t := by unfold slev; rw [ci_recv]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem OwS_pos {c : Dev nD} {g : GSem nD τ sig} {u : Unit} : ∀ {l : List (Fin 14)}, 0 < OwS c l g u → ∃ t ∈ l, g = recvCell (dst t c) t
  | [], h => absurd h (Nat.lt_irrefl 0)
  | t :: l, h => by
    unfold OwS at h
    rw [Pi.add_apply, Finsupp.add_apply] at h
    rcases Nat.pos_of_add_pos h with h | h
    · obtain ⟨t', ht, e⟩ := OwS_pos h; exact ⟨t', List.mem_cons_of_mem _ ht, e⟩
    · exact ⟨t, List.mem_cons_self, tally_pos h⟩
where
  Nat.pos_of_add_pos {a b : ℕ} (h : 0 < a + b) : 0 < a ∨ 0 < b := by omega

theorem O₀_pos {c : Dev nD} {g : GSem nD τ sig} {u : Unit} (h : 0 < O₀ c g u) : (∃ d t, g = recvCell d t) ∨ ∃ d, g = barCell d := by
  unfold O₀ O₁ O₂ at h
  rw [Pi.add_apply, Finsupp.add_apply, Pi.add_apply, Finsupp.add_apply, Pi.add_apply, Finsupp.add_apply] at h
  have h4 : 0 < OwS c order g u ∨ 0 < (tallyAt (barCell (bn 2 c)) () 1 : CellTallies nD τ sig Unit) g u
    ∨ 0 < (tallyAt (barCell (bn 0 c)) () 1 : CellTallies nD τ sig Unit) g u ∨ 0 < (tallyAt (barCell (bn 1 c)) () 1 : CellTallies nD τ sig Unit) g u := by omega
  rcases h4 with h | h | h | h
  · obtain ⟨t, -, e⟩ := OwS_pos h; exact Or.inl ⟨_, t, e⟩
  · exact Or.inr ⟨_, tally_pos h⟩
  · exact Or.inr ⟨_, tally_pos h⟩
  · exact Or.inr ⟨_, tally_pos h⟩

omit [FloatOps F] in
/-- A wait on a cell of a lower level than every copy still owed. -/
theorem mayWait_list (c : Dev nD) (sm : SemLoc sig) (l : List (Fin 14)) (h : ∀ t ∈ l, slev sm < rlev t) :
    (levAts L lv : sProp 𝕄) ⊢ MayWait (c : Thread nD τ) sm () (OwS c l) :=
  MayOwe.of_cut (L := L) (lev := lv) (slev sm) (fun p hp => by rw [Finset.mem_singleton.mp hp, L_tc]; exact Finset.mem_singleton_self _)
    (fun g u hg => by obtain ⟨t, -, rfl⟩ := OwS_pos hg; exact Finset.mem_singleton_self _)
    (fun p hp => by rw [Finset.mem_singleton.mp hp]; exact Nat.le_refl _)
    (fun g u hg => by
      obtain ⟨t, ht, rfl⟩ := OwS_pos hg
      show slev sm < slev (.dma (recvS t))
      rw [slev_recv]; exact h t ht)

omit [FloatOps F] in
/-- The staging waits at launch. -/
theorem mayWait_stage (c : Dev nD) (sm : SemLoc sig) (hs : slev sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; exact Nat.le_of_eq hs)
      (fun g u hg => by
        rcases O₀_pos hg with ⟨d, t, rfl⟩ | ⟨d, rfl⟩
        · show 0 < slev (.dma (recvS t)); rw [slev_recv]; exact (show ∀ t, 0 < rlev t by decide) t
        · show 0 < slev (.reg barS); rw [slev_bar]; decide)
  · rw [MayWait_zero]; iintro -; iempintro

/-! ## What the devices share -/

/-- Every cell's invariant, at the name `K` gives it, and that it is in its first round. -/
def records (K : Dev nD × CI → ℕ) : sProp 𝕄 :=
  iprop((bigSep Finset.univ fun p : Dev nD × CI => cellInv ER (Rd m) (K p) (kcell p)) ∗ bigSep Finset.univ fun p : Dev nD × CI => reached ER (kcell p) 0)

instance records_persistent (K : Dev nD × CI → ℕ) : BI.Persistent (records m K) := by unfold records; infer_instance

theorem inv_at (K : Dev nD × CI → ℕ) (p : Dev nD × CI) : records m K ⊢ cellInv ER (Rd m) (K p) (kcell p) :=
  sep_elim_left.trans (bigSep_elim (Finset.mem_univ p))
theorem reached_at (K : Dev nD × CI → ℕ) (p : Dev nD × CI) : records m K ⊢ reached ER (kcell p) 0 :=
  sep_elim_right.trans (bigSep_elim (Finset.mem_univ p))

end Cert.GatherProof

end
-- ==== Proof.Steps.lean ====
/-
  The steps of the body, one lemma for each kind: what a step takes, and what the rest of the program is given.
-/
module

public import proofs.«01_k».proof.Proof.Protocol

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` runs and ends with `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret (c : Dev nD) {α : Type} (a : α) {Q : α → sProp 𝕄} : Q a ⊢ WP c (.ret a) Q := by
  unfold WP; rw [wp_ret]; exact fupd_intro
theorem WP_bind (c : Dev nD) {α β : Type} (p : Prog (TpuEff nD τ sig (Elt F) Λ₀ .tc) α) (k : α → Prog (TpuEff nD τ sig (Elt F) Λ₀ .tc) β) {Q : β → sProp 𝕄} :
    WP c p (fun a => WP c (k a) Q) ⊢ WP c (p >>= k) Q := Entails.of_eq (by unfold WP; rw [wp_bind])

/-- Device `c` owes `O`. -/
def OW (c : Dev nD) (O : CellTallies nD τ sig Unit) : sProp 𝕄 := iprop(∃ W, owes (c : Thread nD τ) O W)

/-- What device `c` needs to send copy `t` besides the region and the landing; what it keeps until the send is waited for. -/
def Snd (c : Dev nD) (t : Fin 14) : sProp 𝕄 :=
  iprop(dutyTok ER (sendCell c t) 0 0 ∗ dutyTok ER (recvCell (dst t c) t) 0 0 ∗ atPos ER (sendCell c t) 0 ∅ 0)
def Sent (c : Dev nD) (t : Fin 14) : sProp 𝕄 := iprop(cred (tallyAt (sendCell c t) () N) ∗ atPos ER (sendCell c t) 0 ∅ 0)
/-- What device `c` needs to wait for copy `t` to land. -/
def Rcv (c : Dev nD) (t : Fin 14) : sProp 𝕄 := iprop(cred (tallyAt (recvCell c t) () N) ∗ atPos ER (recvCell c t) 0 ∅ 0)

section Steps
variable (K : Dev nD × CI → ℕ) {α : Type} {Q : α → sProp (MT nD τ sig Unit (Elt F) ℕ UU ℕ)} (c : Dev nD)

/-! ## The barrier -/

theorem op_signal {n : Dev nD} (w : Fin 3) (hn : n = bn w c) {k' : ℤ} (hk : ((1 : ℕ) : ℤ) = k') {s : Sem sig} (hs : s = barS) {O O' : CellTallies nD τ sig Unit}
    (hO : O' = O + tallyAt (barCell (bn w c)) () 1)
    {k : PUnit → Prog (TpuEff nD τ sig (Elt F) Λ₀ .tc) α} :
    iprop(records m K ∗ OW c O' ∗ dutyTok ER (barCell (bn w c)) 0 w ∗ barPay (bn w c) w)
      ⊢ iprop((OW c O -∗ WP c (k ⟨⟩) Q) -∗ WP c (.op (.semSignal (n : Thread nD τ) s k') k) Q) := by
  subst hn hk hs
  unfold OW
  iintro ⟨#HR, ⟨%W, HO⟩, Ht, Hp⟩ Hk
  iapply (Rounds.wp_signal 𝒱₀ ER (Rd m) (c : Thread nD τ) none (dst := (bn w c : Thread nD τ)) (κ := K (bn w c, none))
      (d := w) (by rw [duties_bar]; exact Finset.mem_univ _) (amount_bar m (bn w c) w) () O hO) $$ [HO Ht Hp]
  · isplitr; · iapply (inv_at m K (bn w c, none)); iexact HR
    isplitl [HO]; · iexact HO
    isplitl [Ht]; · iexact Ht
    isplitl [Hp]; · rw [payload_bar]; iexact Hp
    iapply (reached_at m K (bn w c, none)); iexact HR
  iintro HO
  iapply Hk
  iexists W; iexact HO

theorem barPay_open : iprop(barPay c 0 ∗ barPay c 1 ∗ barPay c 2) ⊢ (iprop(Land c 0 ∗ Land c 1 ∗ Land c 2 ∗ Land c 3 ∗ Land c 4 ∗ Land c 5 ∗ Land c 6 ∗ Land c 7 ∗ Land c 8
    ∗ Land c 9 ∗ Land c 10 ∗ Land c 11 ∗ Land c 12 ∗ Land c 13) : sProp (MT nD τ sig Unit (Elt F) ℕ UU ℕ)) := by
  unfold barPay
  rw [if_pos rfl, if_neg (by decide), if_pos rfl, if_neg (by decide), if_neg (by decide)]
  iintro ⟨⟨H0, H1, H2, H3, H4⟩, ⟨H5, H6, H7, H8, H13⟩, ⟨H9, H10, H11, H12⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem op_barwait {k' : ℤ} (hk : ((3 : ℕ) : ℤ) = k') {s : Sem sig} (hs : s = barS)
    {k : PUnit → Prog (TpuEff nD τ sig (Elt F) Λ₀ .tc) α} :
    iprop(records m K ∗ levAts L lv ∗ cred (tallyAt (barCell c) () 3) ∗ OW c (OwS c order) ∗ atPos ER (barCell c) 0 ∅ 0)
      ⊢ iprop(((OW c (OwS c order) ∗ semVal (barCell c) 0 ∗ Land c 0 ∗ Land c 1 ∗ Land c 2 ∗ Land c 3 ∗ Land c 4 ∗ Land c 5 ∗ Land c 6 ∗ Land c 7 ∗ Land c 8 ∗ Land c 9 ∗ Land c 10 ∗ Land c 11 ∗ Land c 12 ∗ Land c 13) -∗ WP c (k ⟨⟩) Q)
        -∗ WP c (.op (.semWait s k') k) Q) := by
  subst hk hs
  unfold OW
  iintro ⟨#HR, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := OwS c order) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_list c (.reg barS) order (by rw [slev_bar]; decide)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  iapply (barPay_open c); iexact Hp

/-! ## The copies between devices -/

theorem reg_hM (s : Dev nD) (h : Fin 2) (q : PosShare TreeShare) :
    Reg m c s h q = ((hM s h).view.loc (c : Thread nD τ) ↦[(hM s h).view.set]{q} XF m : sProp 𝕄) := by unfold Reg; rw [hM_set]

theorem op_send {n : Dev nD} (t : Fin 14) (s₀ : Dev nD) (h₀ : Fin 2) (q₀ : PosShare TreeShare) (l : List (Fin 14)) (hs₀ : slot t c = s₀) (hh₀ : half t = h₀) (hq₀ : shr t = q₀)
    (hn : n = dst t c) {off : Fin 3 → ℕ} (ho : off = hoff s₀ h₀)
    {inb : ∀ a, off a + S1x256x4096.size a ≤ S8x512x4096.size a} {s r : DmaSem sig} (hs : s = sendS t) (hr : r = recvS t)
    {hsc : ((gM.slice (Rect.unit (s := S8x512x4096) off S1x256x4096.size inb) (fun _ => rfl)).squeeze S256x4096 squeezes_S1x256x4096_S256x4096 : Memref sig (Dev.tc n : Thread nD τ).2.kind .vmem S256x4096 .fp8e4m3).view.ref.isScScratch = false}
    {hsrc hdst hsem} {k : PUnit → Prog (TpuEff nD τ sig (Elt F) Λ₀ .tc) α} :
    iprop(records m K ∗ OW c (OwS c (t :: l)) ∗ Reg m c s₀ h₀ q₀ ∗ Snd c t ∗ Land c t)
      ⊢ iprop(((OW c (OwS c l) ∗ Sent c t) -∗ WP c (k ⟨⟩) Q)
        -∗ WP c (.op (.enqueueDma ((gM.slice (Rect.unit (s := S8x512x4096) off S1x256x4096.size inb) (fun _ => rfl)).squeeze S256x4096 squeezes_S1x256x4096_S256x4096)
            (.remote (Dev.tc n : Thread nD τ) ((gM.slice (Rect.unit (s := S8x512x4096) off S1x256x4096.size inb) (fun _ => rfl)).squeeze S256x4096 squeezes_S1x256x4096_S256x4096) (.dma s) hsc)
            (.dma r) hsrc hdst hsem) k) Q) := by
  subst hs₀ hh₀ hq₀ hn ho hs hr
  unfold OW Snd Land RegAny Sent
  iintro ⟨#HR, ⟨%W, HO⟩, Hg, ⟨Ht1, Ht2, Hat⟩, ⟨%fd, Hd⟩⟩ Hk
  ihave Hg := (Entails.of_eq (reg_hM m c (slot t c) (half t) (shr t))) $$ Hg
  rw [← hM_set]
  iapply (Rounds.wp_send_pointsTo 𝒱₀ ER (Rd m) (c : Thread nD τ) none (κ₁ := K (c, some (false, t))) (κ₂ := K (dst t c, some (true, t)))
    (src := hM (slot t c) (half t)) (dst := hM (slot t c) (half t)) (c' := (dst t c : Thread nD τ))
    (r₁ := 0) (r₂ := 0) (d₁ := 0) (d₂ := 0) (fd := fd) (fs := XF m) (q := shr t)
    (by rw [duties_send]; exact Finset.mem_singleton_self _) (by rw [duties_recv]; exact Finset.mem_singleton_self _)
    () () N rfl (amount_send m c t 0) (amount_recv m (dst t c) t 0) (OwS c l) rfl (W := W)
    (by rw [payload_send, sendPay, reg_hM])
    (by rw [payload_recv, recvPay, reg_hM]
        show _ ⊢ ((hM (slot t (src t (dst t c))) (half t)).view.loc (dst t c : Thread nD τ) ↦[(hM (slot t (src t (dst t c))) (half t)).view.set]{fullShare} XF m : sProp 𝕄)
        rw [src_dst]
        exact Entails.of_eq (pointsTo_congr (write_agree (hM (slot t c) (half t)).view fd (XF m) _ rfl)))) $$ [HO Hg Ht1 Ht2 Hd]
  · isplitr; · iapply (inv_at m K (c, some (false, t))); iexact HR
    isplitr; · iapply (inv_at m K (dst t c, some (true, t))); iexact HR
    isplitl [Hg]; · iexact Hg
    isplitl [Hd]; · iexact Hd
    isplitl [HO]; · iexact HO
    isplitl [Ht1]; · iexact Ht1
    isplitr; · iapply (reached_at m K (c, some (false, t))); iexact HR
    isplitl [Ht2]; · iexact Ht2
    iapply (reached_at m K (dst t c, some (true, t))); iexact HR
  iintro ⟨Hc, HO⟩
  iapply Hk
  isplitl [HO]; · iexists W; iexact HO
  isplitl [Hc]; · iexact Hc
  iexact Hat

theorem op_recvwait {s' : Shape} {e' : EltTy} {sp' : Space} (t : Fin 14) (s₀ : Dev nD) (h₀ : Fin 2) (l : List (Fin 14)) (hs₀ : inSlot t c = s₀) (hh₀ : half t = h₀) {s : DmaSem sig} (hs : s = recvS t)
    {srcw : Memref sig .tc sp' s' e'} {off : Fin 3 → ℕ} {inb : ∀ a, off a + S1x256x4096.size a ≤ S8x512x4096.size a} {hsrc : srcw.view.WordExact} {hdst}
    (hl : ∀ t' ∈ l, rlev t < rlev t') {k : PUnit → Prog (TpuEff nD τ sig (Elt F) Λ₀ .tc) α} :
    iprop(records m K ∗ levAts L lv ∗ OW c (OwS c l) ∗ Rcv c t)
      ⊢ iprop(((OW c (OwS c l) ∗ semVal (recvCell c t) 0 ∗ Reg m c s₀ h₀ qA ∗ Reg m c s₀ h₀ qB ∗ Reg m c s₀ h₀ qC ∗ Reg m c s₀ h₀ qL) -∗ WP c (k ⟨⟩) Q)
        -∗ WP c (.op (.waitDma2 s srcw ((gM.slice (Rect.unit (s := S8x512x4096) off S1x256x4096.size inb) (fun _ => rfl)).squeeze S256x4096 squeezes_S1x256x4096_S256x4096) hsrc hdst) k) Q) := by
  subst hs hs₀ hh₀
  unfold OW Rcv
  iintro ⟨#HR, #Hlev, ⟨%W, HO⟩, Hc, Hat⟩ Hk
  iapply (Rounds.wp_wait_rest_token 𝒱₀ ER (Rd m) (c : Thread nD τ) none (κ := K (c, some (true, t)))
      (wpE_waitDma2_eq 𝒱₀ (c : Thread nD τ) none Set.univ) (Set.mem_univ _) () (O := OwS c l) (W := W) (R := 0) (m := 0) (T := ∅)
      (by rw [Nat.zero_add, expect_recv])) $$ [Hc HO Hat]
  · isplitr; · iapply (inv_at m K (c, some (true, t))); iexact HR
    isplitl [Hc]; · iexact Hc
    isplitl [HO]; · iexact HO
    isplitr; · iapply (mayWait_list c (.dma (recvS t)) l (by rw [slev_recv]; exact hl)); iexact Hlev
    iexact Hat
  iintro ⟨HO, Hat, -, Hpay⟩
  ihave Hp := (Entails.of_eq ((rest_recv m c t).trans (by unfold recvPay; rfl))) $$ Hpay
  imod (Rounds.cell_close ER (Rd m) (Set.mem_univ (K (c, some (true, t)))) (fun h => h) (R := 0 + 1) (duties_later m (recvCell c t))) $$ [Hat] with Hz
  · isplitr; · iapply (inv_at m K (c, some (true, t))); iexact HR
    iexact Hat
  iapply Hk
  isplitl [HO]; · iexists _; iexact HO
  isplitl [Hz]; · iexact Hz
  iapply (reg_four m c (inSlot t c) (half t)).1; iexact Hp

theorem op_sendwait {s' : Shape} {e' : EltTy} {sp' : Space} (t : Fin 14) (s₀ : Dev nD) (h₀ : Fin 2) (q₀ : PosShare TreeShare) (hs₀ : slot t c = s₀) (hh₀ : half t = h₀) (hq₀ : shr t = q₀)
    {s : DmaSem sig} (hs : s = sendS t)
    {srcw : Memref sig .tc sp' s' e'} {off : Fin 3 → ℕ} {inb : ∀ a, off a + S1x256x4096.size a ≤ S8x512x4096.size a} {hsrc : srcw.view.WordExact} {hdst}
    {k : PUnit → Prog (TpuEff nD τ sig (Elt F) Λ₀ .tc) α} :
    iprop(records m K ∗ OW c (OwS c []) ∗ Sent c t)
      ⊢ iprop(((OW c (OwS c []) ∗ semVal (sendCell c t) 0 ∗ Reg m c s₀ h₀ q₀) -∗ WP c (k ⟨⟩) Q)
        -∗ WP c (.op (.waitDma2 s srcw ((gM.slice (Rect.unit (s := S8x512x4096) off S1x256x4096.size inb) (fun _ => rfl)).squeeze S256x4096 squeezes_S1x256x4096_S256x4096) hsrc hdst) k) Q) := by
  subst hs hs₀ hh₀ hq₀
  unfold OW Sent
  iintro ⟨#HR, ⟨%W, HO⟩, Hc, Hat⟩ Hk
  iapply (Rounds.wp_wait_rest_token 𝒱₀ ER (Rd m) (c : Thread nD τ) none (κ := K (c, some (false, t)))
      (wpE_waitDma2_eq 𝒱₀ (c : Thread nD τ) none Set.univ) (Set.mem_univ _) () (O := OwS c []) (W := W) (R := 0) (m := 0) (T := ∅)
      (by rw [Nat.zero_add, expect_send])) $$ [Hc HO Hat]
  · isplitr; · iapply (inv_at m K (c, some (false, t))); iexact HR
    isplitl [Hc]; · iexact Hc
    isplitl [HO]; · iexact HO
    isplitr; · (unfold OwS; rw [MayWait_zero]; iempintro)
    iexact Hat
  iintro ⟨HO, Hat, -, Hpay⟩
  ihave Hp := (Entails.of_eq ((rest_send m c t).trans (by unfold sendPay; rfl))) $$ Hpay
  imod (Rounds.cell_close ER (Rd m) (Set.mem_univ (K (c, some (false, t)))) (fun h => h) (R := 0 + 1) (duties_later m (sendCell c t))) $$ [Hat] with Hz
  · isplitr; · iapply (inv_at m K (c, some (false, t))); iexact HR
    iexact Hat
  iapply Hk
  isplitl [HO]; · iexists _; iexact HO
  isplitl [Hz]; · iexact Hz
  iexact Hp

end Steps

end Cert.GatherProof

end
-- ==== Proof.Local.lean ====
/-
  The steps of the body that stay on one device: loads, stores and the copies between its own memories.
-/
module

public import proofs.«01_k».proof.Proof.Steps

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Local
variable {α : Type} {Q : α → sProp (MT nD τ sig Unit (Elt F) ℕ UU ℕ)} (c : Dev nD)

/-! ## What the device holds -/

/-- Row block `q` of the narrowed weights, written or not; all of them. -/
def V8any (q : Fin 4) : sProp 𝕄 := iprop(∃ f : Buf (Elt F) ((c : Thread nD τ).loc cc0_scratch1), ((c : Thread nD τ).loc cc0_scratch1) ↦[qset q]{fullShare} f)
def V8 (q : Fin 4) : sProp 𝕄 := ((c : Thread nD τ).loc cc0_scratch1) ↦[qset q]{fullShare} W8 m c
def V8all : sProp 𝕄 := ((c : Thread nD τ).loc cc0_scratch1) ↦[Finset.univ]{fullShare} W8 m c
/-- Slot `p` of the weights' double buffer, with anything or with row block `q`; row block `q` of the weights. -/
def WTany (p : Fin 2) : sProp 𝕄 := iprop(∃ f : Buf (Elt F) ((c : Thread nD τ).loc cc0_scratch2), ((c : Thread nD τ).loc cc0_scratch2) ↦[wset p]{fullShare} f)
def WTq (p : Fin 2) (q : Fin 4) : sProp 𝕄 := ((c : Thread nD τ).loc cc0_scratch2) ↦[wset p]{fullShare} WT m c q
def WSq (q : Fin 4) : sProp 𝕄 := ((c : Thread nD τ).loc main_arg1) ↦[qset q]{fullShare} ws m c
/-- Slot `p` of the result's double buffer, with anything or with `w`; its half `h`. -/
def OTany (p : Fin 2) : sProp 𝕄 := iprop(∃ f : Buf (Elt F) ((c : Thread nD τ).loc cc0_scratch3), ((c : Thread nD τ).loc cc0_scratch3) ↦[oset p]{fullShare} f)
def OTw (p : Fin 2) (w : FVec F S1x512x1024 .f32) : sProp 𝕄 := ((c : Thread nD τ).loc cc0_scratch3) ↦[oset p]{fullShare} OT w
def OHany (p h : Fin 2) : sProp 𝕄 := iprop(∃ f : Buf (Elt F) ((c : Thread nD τ).loc cc0_scratch3), ((c : Thread nD τ).loc cc0_scratch3) ↦[(ohR p h).set]{fullShare} f)
def OHw (p h : Fin 2) (w : FVec F S1x512x1024 .f32) : sProp 𝕄 := ((c : Thread nD τ).loc cc0_scratch3) ↦[(ohR p h).set]{fullShare} OT w
/-- The result's rows of slot `s`, with anything or with the result. -/
def RSany (s : Dev nD) : sProp 𝕄 := iprop(∃ f : Buf (Elt F) ((c : Thread nD τ).loc main_v1), ((c : Thread nD τ).loc main_v1) ↦[rset s]{fullShare} f)
def RS (s : Dev nD) : sProp 𝕄 := ((c : Thread nD τ).loc main_v1) ↦[rset s]{fullShare} OUT m c
/-- The windows of `x` and of the two scales. -/
def XA : sProp 𝕄 := ((c : Thread nD τ).loc cc0_stg0_0) ↦[Finset.univ]{fullShare} xs m c
def SA : sProp 𝕄 := ((c : Thread nD τ).loc cc0_stg1_0) ↦[Finset.univ]{fullShare} sx m c
def SB : sProp 𝕄 := ((c : Thread nD τ).loc cc0_stg2_0) ↦[Finset.univ]{fullShare} sw m c

/-- The semaphores of the copies of the weights and of the result. -/
theorem sem2_inb (p : Fin 2) : ∀ a, (![p.val] : Fin 1 → ℕ) a + S1.size a ≤ S2.size a := by revert p; decide
abbrev wdS (p : Fin 2) : DmaSem sig := ((cc0_scratch4.slice (Rect.unit (s := S2) ![p.val] S1.size (sem2_inb p))).squeeze S_ squeezes_S1_S_).sem
abbrev odS (p : Fin 2) : DmaSem sig := ((cc0_scratch5.slice (Rect.unit (s := S2) ![p.val] S1.size (sem2_inb p))).squeeze S_ squeezes_S1_S_).sem
theorem wdS_val : ∀ p : Fin 2, (wdS p).val = 3 + p.val := by decide +kernel
theorem odS_val : ∀ p : Fin 2, (odS p).val = 5 + p.val := by decide +kernel
theorem slev_wd (p : Fin 2) : slev (.dma (wdS p)) = 0 := by
  have h := wdS_val p; have hp := p.isLt
  unfold slev ci; dsimp only; rw [dif_neg (by omega), dif_neg (by omega)]
theorem slev_od (p : Fin 2) : slev (.dma (odS p)) = 0 := by
  have h := odS_val p; have hp := p.isLt
  unfold slev ci; dsimp only; rw [dif_neg (by omega), dif_neg (by omega)]
theorem rlev_pos (t : Fin 14) : 0 < rlev t := (show ∀ t, 0 < rlev t by decide) t

/-! ## Loads and stores -/

theorem op_load {cs : CoreSpace} {s : Shape} {e : EltTy} {mm : Memref sig .tc cs s e} {r : LoadRect s} {hl : mm.view.LoadsAt r}
    {k : (r.shape.Idx → Elt F e) → Prog (TpuEff nD τ sig (Elt F) Λ₀ .tc) α} {S : Finset (Idx (mm.view.loc (c : Thread nD τ)))} {q : PosShare TreeShare}
    {f : Buf (Elt F) (mm.view.loc (c : Thread nD τ))} (hS : mm.view.setOn r.set ⊆ S) :
    (mm.view.loc (c : Thread nD τ) ↦[S]{q} f)
      ⊢ iprop(((mm.view.loc (c : Thread nD τ) ↦[S]{q} f) -∗ WP c (k (mm.view.readAt (Elt F) r f)) Q) -∗ WP c (.op (.load mm r hl) k) Q) :=
  wp_load 𝒱₀ (c : Thread nD τ) none Set.univ hS

/-- A load whose value goes unused, then the store to the same place, of what the contents `g` have there. -/
theorem op_fill {cs : CoreSpace} {s : Shape} {e : EltTy} {mm : Memref sig .tc cs s e} {r : Rect s} {hl : mm.view.LoadsAt r.toLoadRect}
    {w : r.shape.Idx → Elt F e} {hx : (mm.access r).Stores Finset.univ} {hm : (Finset.univ : Finset r.shape.Idx) = Finset.univ ∨ ∀ a, r.stride a = 1}
    {k : PUnit → Prog (TpuEff nD τ sig (Elt F) Λ₀ .tc) α} {f : Buf (Elt F) ((mm.access r).loc (c : Thread nD τ))} (g : Buf (Elt F) ((mm.access r).loc (c : Thread nD τ)))
    (hw : w = (mm.access r).read (Elt F) g) :
    ((mm.access r).loc (c : Thread nD τ) ↦[(mm.access r).set]{fullShare} f)
      ⊢ iprop((((mm.access r).loc (c : Thread nD τ) ↦[(mm.access r).set]{fullShare} g) -∗ WP c (k ⟨⟩) Q)
        -∗ WP c (.op (.load mm r.toLoadRect hl) (fun _ => .op (.store mm r w Finset.univ hx hm) k)) Q) := by
  iintro H Hk
  iapply (wp_load_rect 𝒱₀ (c : Thread nD τ) none Set.univ (m := mm) (r := r) (Finset.Subset.refl _)) $$ [H]
  · iexact H
  iintro H
  iapply (wp_store 𝒱₀ (c : Thread nD τ) none Set.univ (m := mm) (r := r) (S := (mm.access r).set) (Finset.Subset.refl _)) $$ [H]
  · iexact H
  iintro H
  iapply Hk
  iapply (Entails.of_eq (pointsTo_congr (write_agree (mm.access r) f g w hw)))
  iexact H

theorem op_xstore {off : Fin 3 → ℕ} (s : Dev nD) (h : Fin 2) (ho : off = hoff s h) {inb inb' : ∀ a, off a + S1x256x4096.size a ≤ S8x512x4096.size a}
    {hl : gM.view.LoadsAt (Rect.unit (s := S8x512x4096) off S1x256x4096.size inb).toLoadRect} {w : FVec F S1x256x4096 .fp8e4m3} {hx hm}
    (hw : w = (gM.access (hR s h)).read (Elt F) (XF m)) {k : PUnit → Prog (TpuEff nD τ sig (Elt F) Λ₀ .tc) α} :
    RegAny c s h ⊢ iprop(((Reg m c s h qA ∗ Reg m c s h qB ∗ Reg m c s h qC ∗ Reg m c s h qL) -∗ WP c (k ⟨⟩) Q)
      -∗ WP c (.op (.load gM (Rect.unit (s := S8x512x4096) off S1x256x4096.size inb).toLoadRect hl)
          (fun _ => .op (.store gM (Rect.unit (s := S8x512x4096) off S1x256x4096.size inb') w Finset.univ hx hm) k)) Q) := by
  subst ho
  have hs : (gM.access (hR s h)).set = hset s h := View.set_slice_whole _ _
  unfold RegAny
  iintro ⟨%f, H⟩ Hk
  iapply (op_fill c (mm := gM) (r := hR s h) (f := f) (XF m) hw) $$ [H]
  · rw [hs]; iexact H
  iintro H
  iapply Hk
  iapply (reg_four m c s h).1
  unfold Reg
  rw [← hs]; iexact H

theorem op_vstore {off : Fin 2 → ℕ} (q : Fin 4) (ho : off = ![1024 * q.val, 0]) {inb inb' : ∀ a, off a + S1024x1024.size a ≤ S4096x1024.size a}
    {hl : vM.view.LoadsAt (Rect.unit (s := S4096x1024) off S1024x1024.size inb).toLoadRect} {w : FVec F S1024x1024 .fp8e5m2} {hx hm}
    (hw : w = (vM.access (qR q)).read (Elt F) (W8 m c)) {k : PUnit → Prog (TpuEff nD τ sig (Elt F) Λ₀ .tc) α} :
    V8any c q ⊢ iprop((V8 m c q -∗ WP c (k ⟨⟩) Q)
      -∗ WP c (.op (.load vM (Rect.unit (s := S4096x1024) off S1024x1024.size inb).toLoadRect hl)
          (fun _ => .op (.store vM (Rect.unit (s := S4096x1024) off S1024x1024.size inb') w Finset.univ hx hm) k)) Q) := by
  subst ho
  have hs : (vM.access (qR q)).set = qset q := View.set_slice_whole _ _
  unfold V8any V8
  iintro ⟨%f, H⟩ Hk
  iapply (op_fill c (mm := vM) (r := qR q) (f := f) (W8 m c) hw) $$ [H]
  · rw [hs]; iexact H
  rw [hs]; iexact Hk

theorem op_ostore {off : Fin 3 → ℕ} (p : Fin 2) (ho : off = ![p.val, 0, 0]) {inb inb' : ∀ a, off a + S1x512x1024.size a ≤ S2x512x1024.size a}
    {hl : otM.view.LoadsAt (Rect.unit (s := S2x512x1024) off S1x512x1024.size inb).toLoadRect} {w : FVec F S1x512x1024 .f32} {hx hm} (w' : FVec F S1x512x1024 .f32)
    (hw : w = w') {k : PUnit → Prog (TpuEff nD τ sig (Elt F) Λ₀ .tc) α} :
    OTany c p ⊢ iprop((OTw c p w' -∗ WP c (k ⟨⟩) Q)
      -∗ WP c (.op (.load otM (Rect.unit (s := S2x512x1024) off S1x512x1024.size inb).toLoadRect hl)
          (fun _ => .op (.store otM (Rect.unit (s := S2x512x1024) off S1x512x1024.size inb') w Finset.univ hx hm) k)) Q) := by
  subst ho hw
  have hs : (otM.access (oR p)).set = oset p := View.set_slice_whole _ _
  unfold OTany OTw
  iintro ⟨%f, H⟩ Hk
  iapply (op_fill c (mm := otM) (r := oR p) (f := f) (OT w) (store_o w p)) $$ [H]
  · rw [hs]; iexact H
  rw [hs]; iexact Hk

theorem op_ohstore {off : Fin 3 → ℕ} (p h : Fin 2) (s : Dev nD) (ho : off = ![p.val, 256 * h.val, 0]) {inb inb' : ∀ a, off a + S1x256x1024.size a ≤ S2x512x1024.size a}
    {hl : otM.view.LoadsAt (Rect.unit (s := S2x512x1024) off S1x256x1024.size inb).toLoadRect} {w : FVec F S1x256x1024 .f32} {hx hm}
    (hw : w = htile m c s h) {k : PUnit → Prog (TpuEff nD τ sig (Elt F) Λ₀ .tc) α} :
    OHany c p h ⊢ iprop((OHw c p h (tile2 m c s) -∗ WP c (k ⟨⟩) Q)
      -∗ WP c (.op (.load otM (Rect.unit (s := S2x512x1024) off S1x256x1024.size inb).toLoadRect hl)
          (fun _ => .op (.store otM (Rect.unit (s := S2x512x1024) off S1x256x1024.size inb') w Finset.univ hx hm) k)) Q) := by
  subst ho hw
  have hs : (otM.access (ohR p h)).set = (ohR p h).set := View.set_slice_whole _ _
  unfold OHany OHw
  iintro ⟨%f, H⟩ Hk
  iapply (op_fill c (mm := otM) (r := ohR p h) (f := f) (OT (tile2 m c s)) (store_oh m c s p h)) $$ [H]
  · rw [hs]; iexact H
  rw [hs]; iexact Hk

theorem ohset_disjoint (p : Fin 2) : Disjoint (ohR p 0).set (ohR p 1).set := by
  rw [Finset.disjoint_left]; intro i hi hi'
  rw [mem_ohset] at hi hi'
  simp only [Fin.val_zero, Fin.val_one] at hi hi'; omega
theorem oset_eq (p : Fin 2) : (ohR p 0).set ∪ (ohR p 1).set = oset p := by
  ext i
  have h1 : (i 1).val < 512 := (i 1).isLt
  rw [Finset.mem_union, mem_ohset, mem_ohset, mem_oset]
  simp only [Fin.val_zero, Fin.val_one]; omega

theorem OT_halves (p : Fin 2) : OTany (F := F) c p ⊢ iprop(OHany c p 0 ∗ OHany c p 1) := by
  unfold OTany OHany
  iintro ⟨%f, H⟩
  rw [← oset_eq]
  ihave H := ((pointsTo_union (ohset_disjoint p)).1) $$ H
  icases H with ⟨H0, H1⟩
  isplitl [H0]
  · iexists f; iexact H0
  iexists f; iexact H1
theorem OT_join (p : Fin 2) (w : FVec F S1x512x1024 .f32) : iprop(OHw c p 0 w ∗ OHw c p 1 w) ⊢ OTw c p w := by
  unfold OTw OHw
  rw [← oset_eq]
  exact (pointsTo_union (ohset_disjoint p)).2
theorem OT_any (p : Fin 2) (w : FVec F S1x512x1024 .f32) : OTw c p w ⊢ OTany c p := by
  unfold OTw OTany
  iintro H; iexists _; iexact H
theorem V8_all : iprop(V8 m c 0 ∗ V8 m c 1 ∗ V8 m c 2 ∗ V8 m c 3) ⊢ V8all m c := by
  unfold V8all
  rw [← qset_cover, pointsTo_biUnion _ _ qset_pairwise]
  refine Entails.of_eq ?_
  rw [show (Finset.univ : Finset (Fin 4)) = insert 0 (insert 1 (insert 2 {3})) by decide, bigSep_insert (by decide), bigSep_insert (by decide), bigSep_insert (by decide), bigSep_singleton]
  rfl

theorem op_ldslot {off : Fin 3 → ℕ} (s : Dev nD) (ho : off = soff s) {q : PosShare TreeShare} {inb : ∀ a, off a + S1x512x4096.size a ≤ S8x512x4096.size a}
    {hl : gM.view.LoadsAt (Rect.unit (s := S8x512x4096) off S1x512x4096.size inb).toLoadRect} {k : Vec F S1x512x4096 .fp8e4m3 → Prog (TpuEff nD τ sig (Elt F) Λ₀ .tc) α} :
    iprop(Reg m c s 0 q ∗ Reg m c s 1 q) ⊢ iprop(((Reg m c s 0 q ∗ Reg m c s 1 q) -∗ WP c (k (sv m s)) Q)
      -∗ WP c (.op (.load gM (Rect.unit (s := S8x512x4096) off S1x512x4096.size inb).toLoadRect hl) k) Q) := by
  subst ho
  have hd : Disjoint (hset s 0) (hset s 1) := hset_disjoint (fun h => absurd (congrArg Prod.snd h) (show (0 : Fin 2) ≠ 1 by decide))
  unfold Reg sv
  iintro H Hk
  ihave H := ((pointsTo_union hd).2) $$ H
  iapply (op_load c (mm := gM) (r := (sR s).toLoadRect) (S := hset s 0 ∪ hset s 1) (by
    rw [sset_eq]; exact (View.set_slice gM.view (sR s)).symm.subset.trans (View.set_slice_whole _ _).subset)) $$ [H]
  · iexact H
  iintro H
  iapply Hk
  iapply ((pointsTo_union hd).1); iexact H

theorem op_ldhalf {off : Fin 3 → ℕ} (s : Dev nD) (h : Fin 2) (ho : off = hoff s h) {q : PosShare TreeShare} {inb : ∀ a, off a + S1x256x4096.size a ≤ S8x512x4096.size a}
    {hl : gM.view.LoadsAt (Rect.unit (s := S8x512x4096) off S1x256x4096.size inb).toLoadRect} {k : Vec F S1x256x4096 .fp8e4m3 → Prog (TpuEff nD τ sig (Elt F) Λ₀ .tc) α} :
    Reg m c s h q ⊢ iprop((Reg m c s h q -∗ WP c (k (hv m s h)) Q)
      -∗ WP c (.op (.load gM (Rect.unit (s := S8x512x4096) off S1x256x4096.size inb).toLoadRect hl) k) Q) := by
  subst ho
  unfold Reg hv
  exact op_load c (mm := gM) (r := (hR s h).toLoadRect) (S := hset s h) ((View.set_slice gM.view (hR s h)).symm.subset.trans (View.set_slice_whole _ _).subset)

theorem op_ldw8 {hl : vM.view.LoadsAt vR.toLoadRect} {k : Vec F S4096x1024 .fp8e5m2 → Prog (TpuEff nD τ sig (Elt F) Λ₀ .tc) α} :
    V8all m c ⊢ iprop((V8all m c -∗ WP c (k (w8v m c)) Q) -∗ WP c (.op (.load vM vR.toLoadRect hl) k) Q) := by
  unfold V8all w8v
  exact op_load c (mm := vM) (S := Finset.univ) (Finset.subset_univ _)

theorem op_ldwt {off : Fin 3 → ℕ} (p : Fin 2) (q : Fin 4) (ho : off = ![p.val, 0, 0]) {inb : ∀ a, off a + S1x1024x1024.size a ≤ S2x1024x1024.size a}
    {hl : wtM.view.LoadsAt (Rect.unit (s := S2x1024x1024) off S1x1024x1024.size inb).toLoadRect} {k : Vec F S1x1024x1024 .f32 → Prog (TpuEff nD τ sig (Elt F) Λ₀ .tc) α} :
    WTq m c p q ⊢ iprop((WTany c p -∗ WP c (k (wtM.view.readAt (Elt F) (wR p).toLoadRect (WT m c q))) Q)
      -∗ WP c (.op (.load wtM (Rect.unit (s := S2x1024x1024) off S1x1024x1024.size inb).toLoadRect hl) k) Q) := by
  subst ho
  unfold WTq WTany
  iintro H Hk
  iapply (op_load c (mm := wtM) (r := (wR p).toLoadRect) (S := wset p) ((View.set_slice wtM.view (wR p)).symm.subset.trans (View.set_slice_whole _ _).subset)) $$ [H]
  · iexact H
  iintro H
  iapply Hk
  iexists _; iexact H

theorem op_ldx {off : Fin 2 → ℕ} (h : Fin 2) (ho : off = ![256 * h.val, 0]) {inb : ∀ a, off a + S256x4096.size a ≤ S512x4096.size a}
    {hl : xM.view.LoadsAt (Rect.unit (s := S512x4096) off S256x4096.size inb).toLoadRect} {k : Vec F S256x4096 .f32 → Prog (TpuEff nD τ sig (Elt F) Λ₀ .tc) α} :
    XA m c ⊢ iprop((XA m c -∗ WP c (k (xM.view.readAt (Elt F) (xR h).toLoadRect (xs m c))) Q)
      -∗ WP c (.op (.load xM (Rect.unit (s := S512x4096) off S256x4096.size inb).toLoadRect hl) k) Q) := by
  subst ho
  unfold XA
  exact op_load c (mm := xM) (S := Finset.univ) (Finset.subset_univ _)

theorem S1_idx (i : S1.Idx) : i = i1 := by
  funext a
  match a with
  | 0 => exact Fin.ext (by have := (i 0).isLt; change _ < 1 at this; show (i 0).val = 0; omega)

theorem op_ldsa {off : Fin 1 → ℕ} {inb : ∀ a, off a + S1.size a ≤ S1.size a} {hl : aM.view.LoadsAt (Rect.unit (s := S1) off S1.size inb).toLoadRect}
    {k : ((Rect.unit (s := S1) off S1.size inb).toLoadRect.shape.Idx → Elt F .f32) → Prog (TpuEff nD τ sig (Elt F) Λ₀ .tc) α} :
    SA m c ⊢ iprop((SA m c -∗ WP c (k (fun _ => sx m c i1)) Q) -∗ WP c (.op (.load aM (Rect.unit (s := S1) off S1.size inb).toLoadRect hl) k) Q) := by
  have e : aM.view.readAt (Elt F) (Rect.unit (s := S1) off S1.size inb).toLoadRect (sx m c) = fun _ => sx m c i1 := by
    funext y; exact congrArg (sx m c) (S1_idx _)
  unfold SA
  rw [← e]
  exact op_load c (mm := aM) (S := Finset.univ) (Finset.subset_univ _)

theorem op_ldsb {off : Fin 1 → ℕ} {inb : ∀ a, off a + S1.size a ≤ S1.size a} {hl : bM.view.LoadsAt (Rect.unit (s := S1) off S1.size inb).toLoadRect}
    {k : ((Rect.unit (s := S1) off S1.size inb).toLoadRect.shape.Idx → Elt F .f32) → Prog (TpuEff nD τ sig (Elt F) Λ₀ .tc) α} :
    SB m c ⊢ iprop((SB m c -∗ WP c (k (fun _ => sw m c i1)) Q) -∗ WP c (.op (.load bM (Rect.unit (s := S1) off S1.size inb).toLoadRect hl) k) Q) := by
  have e : bM.view.readAt (Elt F) (Rect.unit (s := S1) off S1.size inb).toLoadRect (sw m c) = fun _ => sw m c i1 := by
    funext y; exact congrArg (sw m c) (S1_idx _)
  unfold SB
  rw [← e]
  exact op_load c (mm := bM) (S := Finset.univ) (Finset.subset_univ _)

/-! ## The copies between the device's own memories -/

abbrev NW : ℕ := (wcM 0).view.amount (.dma (wdS 0))
abbrev NO : ℕ := (rM 0).view.amount (.dma (odS 0))
theorem NW_pos : 0 < NW := View.dmaCredit_pos _ (by decide)
theorem NO_pos : 0 < NO := View.dmaCredit_pos _ (by decide)

/-- Row block `q` of the weights on its way to slot `p`; the result's rows of slot `s` on their way from slot `p`. -/
def WFl (p : Fin 2) (q : Fin 4) : sProp 𝕄 :=
  Transfers.Flight EC (c : Thread nD τ) (.dma (wdS p)) () NW iprop(WTq m c p q ∗ WSq m c q)
def OFl (p : Fin 2) (s : Dev nD) : sProp 𝕄 :=
  Transfers.Flight EC (c : Thread nD τ) (.dma (odS p)) () NO iprop(RS m c s ∗ OTany c p)
def wdCell (p : Fin 2) : GSem nD τ sig := ((c : Thread nD τ), .dma (wdS p))
def odCell (p : Fin 2) : GSem nD τ sig := ((c : Thread nD τ), .dma (odS p))

theorem op_wdma (p : Fin 2) (q : Fin 4) {off : Fin 2 → ℕ} {off' : Fin 3 → ℕ} (ho : off = ![1024 * q.val, 0]) (ho' : off' = ![p.val, 0, 0])
    {inb : ∀ a, off a + S1024x1024.size a ≤ S4096x1024.size a} {inb' : ∀ a, off' a + S1x1024x1024.size a ≤ S2x1024x1024.size a} {s : DmaSem sig} (hs : s = wdS p) {hsrc hdst hsem}
    {k : PUnit → Prog (TpuEff nD τ sig (Elt F) Λ₀ .tc) α} :
    iprop(WSq m c q ∗ WTany c p ∗ semVal (wdCell c p) 0) ⊢ iprop((WFl m c p q -∗ WP c (k ⟨⟩) Q)
      -∗ WP c (.op (.enqueueDma (wM.slice (Rect.unit (s := S4096x1024) off S1024x1024.size inb) (fun _ => rfl))
          (.here ((wtM.slice (Rect.unit (s := S2x1024x1024) off' S1x1024x1024.size inb') (fun _ => rfl)).squeeze S1024x1024 squeezes_S1x1024x1024_S1024x1024))
          (.dma s) hsrc hdst hsem) k) Q) := by
  subst ho ho' hs
  unfold WSq WTany WFl wdCell WTq
  iintro ⟨Hs, ⟨%f, Hd⟩, Hv⟩ Hk
  rw [← qM_set, ← wcM_set]
  iapply (Transfers.wp_dmaLocal EC 𝒱₀ (c : Thread nD τ) none (src := qM q) (dst := wcM p) (via := .same) (Sd := (wcM p).view.set) (fs := ws m c) (fd := f) (q := fullShare)
    () NW rfl NW_pos (Finset.Subset.refl _)) $$ [Hs Hd Hv]
  · isplitl [Hs]; · iexact Hs
    isplitl [Hd]; · iexact Hd
    iexact Hv
  iintro H
  iapply Hk
  iapply (Transfers.Flight_mono EC (c : Thread nD τ) (D := iprop(((wcM p).view.loc (c : Thread nD τ) ↦[(wcM p).view.set]{fullShare} (wcM p).view.write (Elt F) f (ReadAs.same.apply ((qM q).view.read (Elt F) (ws m c))) Finset.univ)
      ∗ ((qM q).view.loc (c : Thread nD τ) ↦[(qM q).view.set]{fullShare} ws m c))) (by
    rw [pointsTo_congr (write_agree (wcM p).view f (WT m c q) _ (land_w m c q p)), WSq, ← qM_set]))
  iexact H

theorem op_odma (p : Fin 2) (s : Dev nD) {off : Fin 2 → ℕ} {off' : Fin 3 → ℕ} (ho : off = roff s) (ho' : off' = ![p.val, 0, 0])
    {inb : ∀ a, off a + S512x1024.size a ≤ S4096x1024.size a} {inb' : ∀ a, off' a + S1x512x1024.size a ≤ S2x512x1024.size a} {sm : DmaSem sig} (hs : sm = odS p) {hsrc hdst hsem}
    {k : PUnit → Prog (TpuEff nD τ sig (Elt F) Λ₀ .tc) α} :
    iprop(OTw c p (tile m c s) ∗ RSany c s ∗ semVal (odCell c p) 0) ⊢ iprop((OFl m c p s -∗ WP c (k ⟨⟩) Q)
      -∗ WP c (.op (.enqueueDma ((otM.slice (Rect.unit (s := S2x512x1024) off' S1x512x1024.size inb') (fun _ => rfl)).squeeze S512x1024 squeezes_S1x512x1024_S512x1024)
          (.here (oM.slice (Rect.unit (s := S4096x1024) off S512x1024.size inb) (fun _ => rfl)))
          (.dma sm) hsrc hdst hsem) k) Q) := by
  subst ho ho' hs
  unfold OTw RSany OFl odCell RS OTany
  iintro ⟨Hs, ⟨%f, Hd⟩, Hv⟩ Hk
  rw [← rM_set, ← ocM_set]
  iapply (Transfers.wp_dmaLocal EC 𝒱₀ (c : Thread nD τ) none (src := ocM p) (dst := rM s) (via := .same) (Sd := (rM s).view.set) (fs := OT (tile m c s)) (fd := f) (q := fullShare)
    () NO rfl NO_pos (Finset.Subset.refl _)) $$ [Hs Hd Hv]
  · isplitl [Hs]; · iexact Hs
    isplitl [Hd]; · iexact Hd
    iexact Hv
  iintro H
  iapply Hk
  iapply (Transfers.Flight_mono EC (c : Thread nD τ) (D := iprop(((rM s).view.loc (c : Thread nD τ) ↦[(rM s).view.set]{fullShare} (rM s).view.write (Elt F) f (ReadAs.same.apply ((ocM p).view.read (Elt F) (OT (tile m c s)))) Finset.univ)
      ∗ ((ocM p).view.loc (c : Thread nD τ) ↦[(ocM p).view.set]{fullShare} OT (tile m c s)))) (by
    rw [pointsTo_congr (write_agree (rM s).view f (OUT m c) _ (land_o m c s p))]
    iintro ⟨H1, H2⟩
    isplitl [H1]; · iexact H1
    iexists _; iexact H2))
  iexact H

theorem op_localwait {s' : Shape} {e' : EltTy} {sp sp' : Space} {s'' : Shape} {e'' : EltTy} {κ' : Kind} {s : DmaSem sig} (s₀ : DmaSem sig) (hs : s = s₀) (h0 : slev (.dma s₀) = 0) (l : List (Fin 14))
    {srcw : Memref sig .tc sp' s' e'} {dstw : Memref sig κ' sp s'' e''} {hsrc : srcw.view.WordExact} {hdst : dstw.view.WordExact} {n : ℕ} (hN : dstw.view.dmaCredit = n)
    {D : sProp 𝕄} {k : PUnit → Prog (TpuEff nD τ sig (Elt F) Λ₀ .tc) α} :
    iprop(levAts L lv ∗ OW c (OwS c l) ∗ Transfers.Flight EC (c : Thread nD τ) (.dma s₀) () n D)
      ⊢ iprop(((OW c (OwS c l) ∗ semVal ((c : Thread nD τ), .dma s₀) 0 ∗ D) -∗ WP c (k ⟨⟩) Q)
        -∗ WP c (.op (.waitDma2 s srcw dstw hsrc hdst) k) Q) := by
  subst hs
  unfold OW
  iintro ⟨#Hlev, ⟨%W, HO⟩, Hf⟩ Hk
  iapply (Transfers.wp_waitLocalO EC 𝒱₀ (c : Thread nD τ) none (O := OwS c l) (W := W) () hN) $$ [Hf HO]
  · isplitl [Hf]; · iexact Hf
    isplitl [HO]; · iexact HO
    iapply (mayWait_list c (.dma s) l (by rw [h0]; exact fun t _ => rlev_pos t)); iexact Hlev
  iintro ⟨HD, Hv, HO⟩
  iapply Hk
  isplitl [HO]; · iexists _; iexact HO
  isplitl [Hv]; · iexact Hv
  iexact HD

theorem op_wwait (p : Fin 2) (q : Fin 4) (l : List (Fin 14)) {s' : Shape} {e' : EltTy} {sp' : Space} {s : DmaSem sig} (hs : s = wdS p)
    {srcw : Memref sig .tc sp' s' e'} {off : Fin 3 → ℕ} {inb : ∀ a, off a + S1x1024x1024.size a ≤ S2x1024x1024.size a} {hsrc : srcw.view.WordExact} {hdst}
    {k : PUnit → Prog (TpuEff nD τ sig (Elt F) Λ₀ .tc) α} :
    iprop(levAts L lv ∗ OW c (OwS c l) ∗ WFl m c p q)
      ⊢ iprop(((OW c (OwS c l) ∗ semVal (wdCell c p) 0 ∗ WTq m c p q ∗ WSq m c q) -∗ WP c (k ⟨⟩) Q)
        -∗ WP c (.op (.waitDma2 s srcw ((wtM.slice (Rect.unit (s := S2x1024x1024) off S1x1024x1024.size inb) (fun _ => rfl)).squeeze S1024x1024 squeezes_S1x1024x1024_S1024x1024) hsrc hdst) k) Q) := op_localwait c (wdS p) hs (slev_wd p) l (srcw := srcw)
      (dstw := ((wtM.slice (Rect.unit (s := S2x1024x1024) off S1x1024x1024.size inb) (fun _ => rfl)).squeeze S1024x1024 squeezes_S1x1024x1024_S1024x1024)) (hsrc := hsrc) (hdst := hdst) rfl

theorem op_owait (p : Fin 2) (s : Dev nD) (l : List (Fin 14)) {s' : Shape} {e' : EltTy} {sp' : Space} {sm : DmaSem sig} (hs : sm = odS p)
    {srcw : Memref sig .tc sp' s' e'} {off : Fin 2 → ℕ} {inb : ∀ a, off a + S512x1024.size a ≤ S4096x1024.size a} {hsrc : srcw.view.WordExact} {hdst}
    {k : PUnit → Prog (TpuEff nD τ sig (Elt F) Λ₀ .tc) α} :
    iprop(levAts L lv ∗ OW c (OwS c l) ∗ OFl m c p s)
      ⊢ iprop(((OW c (OwS c l) ∗ semVal (odCell c p) 0 ∗ RS m c s ∗ OTany c p) -∗ WP c (k ⟨⟩) Q)
        -∗ WP c (.op (.waitDma2 sm srcw (oM.slice (Rect.unit (s := S4096x1024) off S512x1024.size inb) (fun _ => rfl)) hsrc hdst) k) Q) := op_localwait c (odS p) hs (slev_od p) l (srcw := srcw)
      (dstw := (oM.slice (Rect.unit (s := S4096x1024) off S512x1024.size inb) (fun _ => rfl))) (hsrc := hsrc) (hdst := hdst) rfl

end Local

end Cert.GatherProof

end
-- ==== Proof.PartsA.lean ====
/-
  The parts of the body up to the first tile: the barrier, the sends of a device's own slot, the narrowing of the weights.
-/
module

public import proofs.«01_k».proof.Proof.Local

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! The slots in the receiver's terms, and which tiles are computed whole. -/

theorem in0 : ∀ c, inSlot 0 c = (ccw c) := by decide +kernel
theorem in1 : ∀ c, inSlot 1 c = (ccw c) := by decide +kernel
theorem in2 : ∀ c, inSlot 2 c = (cw (cw c)) := by decide +kernel
theorem in3 : ∀ c, inSlot 3 c = (zp (ccw c)) := by decide +kernel
theorem in4 : ∀ c, inSlot 4 c = (zp (ccw c)) := by decide +kernel
theorem in5 : ∀ c, inSlot 5 c = (cw c) := by decide +kernel
theorem in6 : ∀ c, inSlot 6 c = (cw c) := by decide +kernel
theorem in7 : ∀ c, inSlot 7 c = (cw (cw c)) := by decide +kernel
theorem in8 : ∀ c, inSlot 8 c = (zp (cw c)) := by decide +kernel
theorem in9 : ∀ c, inSlot 9 c = (zp c) := by decide +kernel
theorem in10 : ∀ c, inSlot 10 c = (zp c) := by decide +kernel
theorem in11 : ∀ c, inSlot 11 c = (zp (cw c)) := by decide +kernel
theorem in12 : ∀ c, inSlot 12 c = (zp (cw (cw c))) := by decide +kernel
theorem in13 : ∀ c, inSlot 13 c = (zp (cw (cw c))) := by decide +kernel
theorem tile_my (c : Dev nD) : tile m c c = tile1 m c c := if_neg ((show ∀ c, ¬ halved c c by decide +kernel) c)
theorem tile_L1 (c : Dev nD) : tile m c (ccw c) = tile1 m c (ccw c) := if_neg ((show ∀ c, ¬ halved c (ccw c) by decide +kernel) c)
theorem tile_R1 (c : Dev nD) : tile m c (cw c) = tile1 m c (cw c) := if_neg ((show ∀ c, ¬ halved c (cw c) by decide +kernel) c)
theorem tile_D (c : Dev nD) : tile m c (cw (cw c)) = tile1 m c (cw (cw c)) := if_neg ((show ∀ c, ¬ halved c (cw (cw c)) by decide +kernel) c)
theorem tile_O0 (c : Dev nD) : tile m c (zp c) = tile1 m c (zp c) := if_neg ((show ∀ c, ¬ halved c (zp c) by decide +kernel) c)
theorem tile_OL (c : Dev nD) : tile m c (zp (ccw c)) = tile2 m c (zp (ccw c)) := if_pos (Or.inl rfl)
theorem tile_OR (c : Dev nD) : tile m c (zp (cw c)) = tile1 m c (zp (cw c)) := if_neg ((show ∀ c, ¬ halved c (zp (cw c)) by decide +kernel) c)
theorem tile_OD (c : Dev nD) : tile m c (zp (cw (cw c))) = tile2 m c (zp (cw (cw c))) := if_pos (Or.inr rfl)

section Parts
variable (K : Dev nD × CI → ℕ) (c : Dev nD)

theorem part4 {Q : (Σ' (_ : F .f32), BitVec 32) → sProp (MT nD τ sig Unit (Elt F) ℕ UU ℕ)} {h0 h1 h2 h3 h4 h5 h6 h7 h8} (v2 : BitVec 32) (v26 : BitVec 32) (v38 : BitVec 32) (v39 : BitVec 32):
    iprop(records m K ∗ levAts L lv ∗ OW c (O₀ c) ∗ dutyTok ER (barCell (bn 1 c)) 0 1 ∗ barPay (bn 1 c) 1 ∗ dutyTok ER (barCell (bn 0 c)) 0 0 ∗ barPay (bn 0 c) 0 ∗ dutyTok ER (barCell (bn 2 c)) 0 2 ∗ barPay (bn 2 c) 2 ∗ cred (tallyAt (barCell c) () 3) ∗ atPos ER (barCell c) 0 ∅ 0 ∗ SA m c ∗ SB m c ∗ XA m c ∗ RegAny c c 0 ∗ Snd c 0)
      ⊢ iprop(((semVal (barCell c) 0 ∗ Land c 1 ∗ Land c 2 ∗ Land c 3 ∗ Land c 4 ∗ Land c 5 ∗ Land c 6 ∗ Land c 7 ∗ Land c 8 ∗ Land c 9 ∗ Land c 10 ∗ Land c 11 ∗ Land c 12 ∗ Land c 13 ∗ SA m c ∗ SB m c ∗ XA m c ∗ Reg m c c 0 qB ∗ Reg m c c 0 qC ∗ Reg m c c 0 qL ∗ OW c (OwS c [5, 9, 1, 6, 10, 2, 3, 8, 7, 11, 4, 12, 13]) ∗ Sent c 0) -∗ Q ⟨scale m c, 1#32⟩)
        -∗ WP c (k0_part4 (F := F) xM h0 wM h1 aM h2 bM h3 oM h4 gM h5 vM h6 wtM h7 otM h8 cc0_scratch4 cc0_scratch5 cc0_scratch6 cc0_scratch7 c v2 v26 v38 v39 (SemArray.scalar (sig.barrier 0 rfl))) Q) := by
  rw [k0_part4_eq_skeleton]; unfold k0_part4_skel
  simp only [semSignalWord, semWaitWord, smemLoad, smemLoadElt, Prog.lift, Prog.bind_op, Prog.bind_ret, Prog.pure_eq_ret]
  iintro ⟨#HR, #Hlev, HO, k1, p1, k0, p0, k2, p2, cb, ab, sa, sb, xa, my0, n0⟩ Hk
  iapply (op_signal m K c 1 (dev1_eq c) (by decide) rfl (O' := O₀ c) (O := O₁ c) rfl) $$ [HO k1 p1]
  · isplitr; · iexact HR
    isplitl [HO]; · iexact HO
    isplitl [k1]; · iexact k1
    iexact p1
  iintro HO
  iapply (op_signal m K c 0 (dev2_eq c) (by decide) rfl (O' := O₁ c) (O := O₂ c) rfl) $$ [HO k0 p0]
  · isplitr; · iexact HR
    isplitl [HO]; · iexact HO
    isplitl [k0]; · iexact k0
    iexact p0
  iintro HO
  iapply (op_signal m K c 2 (dev3_eq c) (by decide) rfl (O' := O₂ c) (O := OwS c order) rfl) $$ [HO k2 p2]
  · isplitr; · iexact HR
    isplitl [HO]; · iexact HO
    isplitl [k2]; · iexact k2
    iexact p2
  iintro HO
  iapply (op_barwait m K c (by decide) rfl) $$ [cb HO ab]
  · isplitr; · iexact HR
    isplitr; · iexact Hlev
    isplitl [cb]; · iexact cb
    isplitl [HO]; · iexact HO
    iexact ab
  iintro ⟨HO, zb, b0, b1, b2, b3, b4, b5, b6, b7, b8, b9, b10, b11, b12, b13⟩
  iapply (op_ldsa m c) $$ [sa]
  · iexact sa
  iintro sa
  iapply (op_ldsb m c) $$ [sb]
  · iexact sb
  iintro sb
  iapply (op_ldx m c 0 rfl) $$ [xa]
  · iexact xa
  iintro xa
  iapply (op_xstore m c c 0 (off1_eq c) (store_x m c 0)) $$ [my0]
  · iexact my0
  iintro ⟨gmy0A, gmy0B, gmy0C, gmy0L⟩
  iapply (op_send m K c 0 c 0 qA [5, 9, 1, 6, 10, 2, 3, 8, 7, 11, 4, 12, 13] rfl rfl rfl (dev4_eq c) (off2_eq c) rfl rfl) $$ [HO gmy0A n0 b0]
  · isplitr; · iexact HR
    isplitl [HO]; · iexact HO
    isplitl [gmy0A]; · iexact gmy0A
    isplitl [n0]; · iexact n0
    iexact b0
  iintro ⟨HO, e0⟩
  iapply (WP_ret c)
  beta_reduce
  rw [show scale m c = k0_pay1 (sx m c i1) (sw m c i1) from rfl]
  iapply Hk
  isplitl [zb]; · iexact zb
  isplitl [b1]; · iexact b1
  isplitl [b2]; · iexact b2
  isplitl [b3]; · iexact b3
  isplitl [b4]; · iexact b4
  isplitl [b5]; · iexact b5
  isplitl [b6]; · iexact b6
  isplitl [b7]; · iexact b7
  isplitl [b8]; · iexact b8
  isplitl [b9]; · iexact b9
  isplitl [b10]; · iexact b10
  isplitl [b11]; · iexact b11
  isplitl [b12]; · iexact b12
  isplitl [b13]; · iexact b13
  isplitl [sa]; · iexact sa
  isplitl [sb]; · iexact sb
  isplitl [xa]; · iexact xa
  isplitl [gmy0B]; · iexact gmy0B
  isplitl [gmy0C]; · iexact gmy0C
  isplitl [gmy0L]; · iexact gmy0L
  isplitl [HO]; · iexact HO
  iexact e0

theorem part5 {Q : PUnit → sProp (MT nD τ sig Unit (Elt F) ℕ UU ℕ)} {h0 h1 h2 h3 h4 h5 h6 h7 h8} (v2 : BitVec 32) (v26 : BitVec 32) (v38 : BitVec 32) (v39 : BitVec 32) (c1 : BitVec 32):
    iprop(records m K ∗ levAts L lv ∗ OW c (OwS c [5, 9, 1, 6, 10, 2, 3, 8, 7, 11, 4, 12, 13]) ∗ Reg m c c 0 qB ∗ Snd c 5 ∗ Land c 5 ∗ Reg m c c 0 qC ∗ Snd c 9 ∗ Land c 9 ∗ XA m c ∗ RegAny c c 1)
      ⊢ iprop(((Sent c 5 ∗ OW c (OwS c [1, 6, 10, 2, 3, 8, 7, 11, 4, 12, 13]) ∗ Sent c 9 ∗ XA m c ∗ Reg m c c 1 qA ∗ Reg m c c 1 qB ∗ Reg m c c 1 qC ∗ Reg m c c 1 qL) -∗ Q ⟨⟩)
        -∗ WP c (k0_part5 (F := F) xM h0 wM h1 aM h2 bM h3 oM h4 gM h5 vM h6 wtM h7 otM h8 cc0_scratch4 cc0_scratch5 cc0_scratch6 cc0_scratch7 c v2 v26 v38 v39 c1) Q) := by
  rw [k0_part5_eq_skeleton]; unfold k0_part5_skel
  simp only [Prog.lift, Prog.bind_op, Prog.bind_ret, Prog.pure_eq_ret]
  iintro ⟨#HR, #Hlev, HO, gmy0B, n5, b5, gmy0C, n9, b9, xa, my1⟩ Hk
  iapply (op_send m K c 5 c 0 qB [9, 1, 6, 10, 2, 3, 8, 7, 11, 4, 12, 13] rfl rfl rfl (dev5_eq c) (off2_eq c) rfl rfl) $$ [HO gmy0B n5 b5]
  · isplitr; · iexact HR
    isplitl [HO]; · iexact HO
    isplitl [gmy0B]; · iexact gmy0B
    isplitl [n5]; · iexact n5
    iexact b5
  iintro ⟨HO, e5⟩
  iapply (op_send m K c 9 c 0 qC [1, 6, 10, 2, 3, 8, 7, 11, 4, 12, 13] rfl rfl rfl (dev6_eq c) (off2_eq c) rfl rfl) $$ [HO gmy0C n9 b9]
  · isplitr; · iexact HR
    isplitl [HO]; · iexact HO
    isplitl [gmy0C]; · iexact gmy0C
    isplitl [n9]; · iexact n9
    iexact b9
  iintro ⟨HO, e9⟩
  iapply (op_ldx m c 1 rfl) $$ [xa]
  · iexact xa
  iintro xa
  iapply (op_xstore m c c 1 (off3_eq c) (store_x m c 1)) $$ [my1]
  · iexact my1
  iintro ⟨gmy1A, gmy1B, gmy1C, gmy1L⟩
  iapply (WP_ret c)
  iapply Hk
  isplitl [e5]; · iexact e5
  isplitl [HO]; · iexact HO
  isplitl [e9]; · iexact e9
  isplitl [xa]; · iexact xa
  isplitl [gmy1A]; · iexact gmy1A
  isplitl [gmy1B]; · iexact gmy1B
  isplitl [gmy1C]; · iexact gmy1C
  iexact gmy1L

theorem part6 {Q : PUnit → sProp (MT nD τ sig Unit (Elt F) ℕ UU ℕ)} {h0 h1 h2 h3 h4 h5 h6 h7 h8} (v38 : BitVec 32) (v39 : BitVec 32):
    iprop(records m K ∗ levAts L lv ∗ OW c (OwS c [1, 6, 10, 2, 3, 8, 7, 11, 4, 12, 13]) ∗ Reg m c c 1 qA ∗ Snd c 1 ∗ Land c 1 ∗ Reg m c c 1 qB ∗ Snd c 6 ∗ Land c 6 ∗ Reg m c c 1 qC ∗ Snd c 10 ∗ Land c 10 ∗ WSq m c 0 ∗ WTany c 0 ∗ semVal (wdCell c 0) 0)
      ⊢ iprop(((Sent c 1 ∗ Sent c 6 ∗ OW c (OwS c [2, 3, 8, 7, 11, 4, 12, 13]) ∗ Sent c 10 ∗ WFl m c 0 0) -∗ Q ⟨⟩)
        -∗ WP c (k0_part6 (F := F) xM h0 wM h1 aM h2 bM h3 oM h4 gM h5 vM h6 wtM h7 otM h8 cc0_scratch4 cc0_scratch5 cc0_scratch6 cc0_scratch7 c v38 v39) Q) := by
  rw [k0_part6_eq_skeleton]; unfold k0_part6_skel
  simp only [Prog.lift, Prog.bind_op, Prog.bind_ret, Prog.pure_eq_ret]
  iintro ⟨#HR, #Hlev, HO, gmy1A, n1, b1, gmy1B, n6, b6, gmy1C, n10, b10, w0, t0, wd0⟩ Hk
  iapply (op_send m K c 1 c 1 qA [6, 10, 2, 3, 8, 7, 11, 4, 12, 13] rfl rfl rfl (dev7_eq c) (off4_eq c) rfl rfl) $$ [HO gmy1A n1 b1]
  · isplitr; · iexact HR
    isplitl [HO]; · iexact HO
    isplitl [gmy1A]; · iexact gmy1A
    isplitl [n1]; · iexact n1
    iexact b1
  iintro ⟨HO, e1⟩
  iapply (op_send m K c 6 c 1 qB [10, 2, 3, 8, 7, 11, 4, 12, 13] rfl rfl rfl (dev8_eq c) (off4_eq c) rfl rfl) $$ [HO gmy1B n6 b6]
  · isplitr; · iexact HR
    isplitl [HO]; · iexact HO
    isplitl [gmy1B]; · iexact gmy1B
    isplitl [n6]; · iexact n6
    iexact b6
  iintro ⟨HO, e6⟩
  iapply (op_send m K c 10 c 1 qC [2, 3, 8, 7, 11, 4, 12, 13] rfl rfl rfl (dev9_eq c) (off4_eq c) rfl rfl) $$ [HO gmy1C n10 b10]
  · isplitr; · iexact HR
    isplitl [HO]; · iexact HO
    isplitl [gmy1C]; · iexact gmy1C
    isplitl [n10]; · iexact n10
    iexact b10
  iintro ⟨HO, e10⟩
  iapply (op_wdma m c 0 0 rfl rfl rfl) $$ [w0 t0 wd0]
  · isplitl [w0]; · iexact w0
    isplitl [t0]; · iexact t0
    iexact wd0
  iintro f0
  iapply (WP_ret c)
  iapply Hk
  isplitl [e1]; · iexact e1
  isplitl [e6]; · iexact e6
  isplitl [HO]; · iexact HO
  isplitl [e10]; · iexact e10
  iexact f0

theorem part7 {Q : (Vec F S1x1024x1024 .f32) → sProp (MT nD τ sig Unit (Elt F) ℕ UU ℕ)} {h0 h1 h2 h3 h4 h5 h6 h7 h8} :
    iprop(records m K ∗ levAts L lv ∗ WSq m c 1 ∗ WTany c 1 ∗ semVal (wdCell c 1) 0 ∗ OW c (OwS c [2, 3, 8, 7, 11, 4, 12, 13]) ∗ WFl m c 0 0 ∗ V8any c 0 ∗ WSq m c 2)
      ⊢ iprop(((WSq m c 0 ∗ V8 m c 0 ∗ WFl m c 0 2 ∗ OW c (OwS c [2, 3, 8, 7, 11, 4, 12, 13]) ∗ semVal (wdCell c 1) 0 ∗ WSq m c 1 ∗ WTany c 1) -∗ Q (wtM.view.readAt (Elt F) (wR 1).toLoadRect (WT m c 1)))
        -∗ WP c (k0_part7 (F := F) xM h0 wM h1 aM h2 bM h3 oM h4 gM h5 vM h6 wtM h7 otM h8 cc0_scratch4 cc0_scratch5 cc0_scratch6 cc0_scratch7 ) Q) := by
  rw [k0_part7_eq_skeleton]; unfold k0_part7_skel
  simp only [Prog.lift, Prog.bind_op, Prog.bind_ret, Prog.pure_eq_ret]
  iintro ⟨#HR, #Hlev, w1, t1, wd1, HO, f0, v0, w2⟩ Hk
  iapply (op_wdma m c 1 1 rfl rfl rfl) $$ [w1 t1 wd1]
  · isplitl [w1]; · iexact w1
    isplitl [t1]; · iexact t1
    iexact wd1
  iintro f1
  iapply (op_wwait m c 0 0 [2, 3, 8, 7, 11, 4, 12, 13] rfl) $$ [HO f0]
  · isplitr; · iexact Hlev
    isplitl [HO]; · iexact HO
    iexact f0
  iintro ⟨HO, wd0, t0, w0⟩
  iapply (op_ldwt m c 0 0 rfl) $$ [t0]
  · iexact t0
  iintro t0
  iapply (op_vstore m c 0 rfl (store_w m c 0 0)) $$ [v0]
  · iexact v0
  iintro v0
  iapply (op_wdma m c 0 2 rfl rfl rfl) $$ [w2 t0 wd0]
  · isplitl [w2]; · iexact w2
    isplitl [t0]; · iexact t0
    iexact wd0
  iintro f0
  iapply (op_wwait m c 1 1 [2, 3, 8, 7, 11, 4, 12, 13] rfl) $$ [HO f1]
  · isplitr; · iexact Hlev
    isplitl [HO]; · iexact HO
    iexact f1
  iintro ⟨HO, wd1, t1, w1⟩
  iapply (op_ldwt m c 1 1 rfl) $$ [t1]
  · iexact t1
  iintro t1
  iapply (WP_ret c)
  iapply Hk
  isplitl [w0]; · iexact w0
  isplitl [v0]; · iexact v0
  isplitl [f0]; · iexact f0
  isplitl [HO]; · iexact HO
  isplitl [wd1]; · iexact wd1
  isplitl [w1]; · iexact w1
  iexact t1

theorem part8 {Q : (Vec F S1x1024x1024 .f32) → sProp (MT nD τ sig Unit (Elt F) ℕ UU ℕ)} {h0 h1 h2 h3 h4 h5 h6 h7 h8} :
    iprop(records m K ∗ levAts L lv ∗ V8any c 1 ∗ WSq m c 3 ∗ WTany c 1 ∗ semVal (wdCell c 1) 0 ∗ OW c (OwS c [2, 3, 8, 7, 11, 4, 12, 13]) ∗ WFl m c 0 2 ∗ V8any c 2)
      ⊢ iprop(((V8 m c 1 ∗ semVal (wdCell c 0) 0 ∗ WSq m c 2 ∗ WTany c 0 ∗ V8 m c 2 ∗ OW c (OwS c [2, 3, 8, 7, 11, 4, 12, 13]) ∗ semVal (wdCell c 1) 0 ∗ WSq m c 3 ∗ WTany c 1) -∗ Q (wtM.view.readAt (Elt F) (wR 1).toLoadRect (WT m c 3)))
        -∗ WP c (k0_part8 (F := F) xM h0 wM h1 aM h2 bM h3 oM h4 gM h5 vM h6 wtM h7 otM h8 cc0_scratch4 cc0_scratch5 cc0_scratch6 cc0_scratch7 (wtM.view.readAt (Elt F) (wR 1).toLoadRect (WT m c 1))) Q) := by
  rw [k0_part8_eq_skeleton]; unfold k0_part8_skel
  simp only [Prog.lift, Prog.bind_op, Prog.bind_ret, Prog.pure_eq_ret]
  iintro ⟨#HR, #Hlev, v1, w3, t1, wd1, HO, f0, v2⟩ Hk
  iapply (op_vstore m c 1 rfl (store_w m c 1 1)) $$ [v1]
  · iexact v1
  iintro v1
  iapply (op_wdma m c 1 3 rfl rfl rfl) $$ [w3 t1 wd1]
  · isplitl [w3]; · iexact w3
    isplitl [t1]; · iexact t1
    iexact wd1
  iintro f1
  iapply (op_wwait m c 0 2 [2, 3, 8, 7, 11, 4, 12, 13] rfl) $$ [HO f0]
  · isplitr; · iexact Hlev
    isplitl [HO]; · iexact HO
    iexact f0
  iintro ⟨HO, wd0, t0, w2⟩
  iapply (op_ldwt m c 0 2 rfl) $$ [t0]
  · iexact t0
  iintro t0
  iapply (op_vstore m c 2 rfl (store_w m c 2 0)) $$ [v2]
  · iexact v2
  iintro v2
  iapply (op_wwait m c 1 3 [2, 3, 8, 7, 11, 4, 12, 13] rfl) $$ [HO f1]
  · isplitr; · iexact Hlev
    isplitl [HO]; · iexact HO
    iexact f1
  iintro ⟨HO, wd1, t1, w3⟩
  iapply (op_ldwt m c 1 3 rfl) $$ [t1]
  · iexact t1
  iintro t1
  iapply (WP_ret c)
  iapply Hk
  isplitl [v1]; · iexact v1
  isplitl [wd0]; · iexact wd0
  isplitl [w2]; · iexact w2
  isplitl [t0]; · iexact t0
  isplitl [v2]; · iexact v2
  isplitl [HO]; · iexact HO
  isplitl [wd1]; · iexact wd1
  isplitl [w3]; · iexact w3
  iexact t1

theorem part9 {Q : PUnit → sProp (MT nD τ sig Unit (Elt F) ℕ UU ℕ)} {h0 h1 h2 h3 h4 h5 h6 h7 h8} (v2 : BitVec 32) (v26 : BitVec 32):
    iprop(records m K ∗ levAts L lv ∗ V8any c 3 ∗ V8 m c 0 ∗ V8 m c 1 ∗ V8 m c 2 ∗ Reg m c c 0 qL ∗ Reg m c c 1 qL ∗ OTany c 0 ∗ RSany c c ∗ semVal (odCell c 0) 0)
      ⊢ iprop(((Reg m c c 0 qL ∗ Reg m c c 1 qL ∗ V8all m c ∗ OFl m c 0 c) -∗ Q ⟨⟩)
        -∗ WP c (k0_part9 (F := F) xM h0 wM h1 aM h2 bM h3 oM h4 gM h5 vM h6 wtM h7 otM h8 cc0_scratch4 cc0_scratch5 cc0_scratch6 cc0_scratch7 c v2 v26 (scale m c) (wtM.view.readAt (Elt F) (wR 1).toLoadRect (WT m c 3))) Q) := by
  rw [k0_part9_eq_skeleton]; unfold k0_part9_skel
  simp only [Prog.lift, Prog.bind_op, Prog.bind_ret, Prog.pure_eq_ret]
  iintro ⟨#HR, #Hlev, v3, v0, v1, v2, gmy0L, gmy1L, o0, rsmy, od0⟩ Hk
  iapply (op_vstore m c 3 rfl (store_w m c 3 1)) $$ [v3]
  · iexact v3
  iintro v3
  ihave vv := (V8_all m c) $$ [v0 v1 v2 v3]
  · isplitl [v0]; · iexact v0
    isplitl [v1]; · iexact v1
    isplitl [v2]; · iexact v2
    iexact v3
  iapply (op_ldslot m c c (off5_eq c)) $$ [gmy0L gmy1L]
  · isplitl [gmy0L]; · iexact gmy0L
    iexact gmy1L
  iintro ⟨gmy0L, gmy1L⟩
  iapply (op_ldw8 m c) $$ [vv]
  · iexact vv
  iintro vv
  iapply (op_ostore c 0 rfl (tile m c c) (tile_my m c).symm) $$ [o0]
  · iexact o0
  iintro o0
  iapply (op_odma m c 0 c (off6_eq c) rfl rfl) $$ [o0 rsmy od0]
  · isplitl [o0]; · iexact o0
    isplitl [rsmy]; · iexact rsmy
    iexact od0
  iintro of0
  iapply (WP_ret c)
  iapply Hk
  isplitl [gmy0L]; · iexact gmy0L
  isplitl [gmy1L]; · iexact gmy1L
  isplitl [vv]; · iexact vv
  iexact of0

end Parts

end Cert.GatherProof

end
-- ==== Proof.PartsB.lean ====
/-
  The parts of the body that compute the tiles of whole slots, forwarding what has landed.
-/
module

public import proofs.«01_k».proof.Proof.PartsA

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (K : Dev nD × CI → ℕ) (c : Dev nD)

theorem part10 {Q : PUnit → sProp (MT nD τ sig Unit (Elt F) ℕ UU ℕ)} {h0 h1 h2 h3 h4 h5 h6 h7 h8} (v26 : BitVec 32):
    iprop(records m K ∗ levAts L lv ∗ OW c (OwS c [2, 3, 8, 7, 11, 4, 12, 13]) ∗ Rcv c 0 ∗ Snd c 2 ∗ Land c 2 ∗ Rcv c 9)
      ⊢ iprop(((semVal (recvCell c 0) 0 ∗ Reg m c (ccw c) 0 qB ∗ Reg m c (ccw c) 0 qC ∗ Reg m c (ccw c) 0 qL ∗ Sent c 2 ∗ OW c (OwS c [3, 8, 7, 11, 4, 12, 13]) ∗ semVal (recvCell c 9) 0 ∗ Reg m c (zp c) 0 qA ∗ Reg m c (zp c) 0 qB ∗ Reg m c (zp c) 0 qC ∗ Reg m c (zp c) 0 qL) -∗ Q ⟨⟩)
        -∗ WP c (k0_part10 (F := F) xM h0 wM h1 aM h2 bM h3 oM h4 gM h5 vM h6 wtM h7 otM h8 cc0_scratch4 cc0_scratch5 cc0_scratch6 cc0_scratch7 c v26) Q) := by
  rw [k0_part10_eq_skeleton]; unfold k0_part10_skel
  simp only [Prog.lift, Prog.bind_op, Prog.bind_ret, Prog.pure_eq_ret]
  iintro ⟨#HR, #Hlev, HO, r0, n2, b2, r9⟩ Hk
  iapply (op_recvwait m K c 0 (ccw c) 0 [2, 3, 8, 7, 11, 4, 12, 13] (in0 c) rfl rfl (by decide)) $$ [HO r0]
  · isplitr; · iexact HR
    isplitr; · iexact Hlev
    isplitl [HO]; · iexact HO
    iexact r0
  iintro ⟨HO, z0, gL10A, gL10B, gL10C, gL10L⟩
  iapply (op_send m K c 2 (ccw c) 0 qA [3, 8, 7, 11, 4, 12, 13] rfl rfl rfl (dev10_eq c) (off7_3_eq c) rfl rfl) $$ [HO gL10A n2 b2]
  · isplitr; · iexact HR
    isplitl [HO]; · iexact HO
    isplitl [gL10A]; · iexact gL10A
    isplitl [n2]; · iexact n2
    iexact b2
  iintro ⟨HO, e2⟩
  iapply (op_recvwait m K c 9 (zp c) 0 [3, 8, 7, 11, 4, 12, 13] (in9 c) rfl rfl (by decide)) $$ [HO r9]
  · isplitr; · iexact HR
    isplitr; · iexact Hlev
    isplitl [HO]; · iexact HO
    iexact r9
  iintro ⟨HO, z9, gO00A, gO00B, gO00C, gO00L⟩
  iapply (WP_ret c)
  iapply Hk
  isplitl [z0]; · iexact z0
  isplitl [gL10B]; · iexact gL10B
  isplitl [gL10C]; · iexact gL10C
  isplitl [gL10L]; · iexact gL10L
  isplitl [e2]; · iexact e2
  isplitl [HO]; · iexact HO
  isplitl [z9]; · iexact z9
  isplitl [gO00A]; · iexact gO00A
  isplitl [gO00B]; · iexact gO00B
  isplitl [gO00C]; · iexact gO00C
  iexact gO00L

theorem part11 {Q : PUnit → sProp (MT nD τ sig Unit (Elt F) ℕ UU ℕ)} {h0 h1 h2 h3 h4 h5 h6 h7 h8} (v26 : BitVec 32) (v38 : BitVec 32):
    iprop(records m K ∗ levAts L lv ∗ OW c (OwS c [3, 8, 7, 11, 4, 12, 13]) ∗ Reg m c (zp c) 0 qA ∗ Snd c 3 ∗ Land c 3 ∗ Reg m c (zp c) 0 qB ∗ Snd c 8 ∗ Land c 8 ∗ Rcv c 6)
      ⊢ iprop(((Sent c 3 ∗ Sent c 8 ∗ OW c (OwS c [7, 11, 4, 12, 13]) ∗ semVal (recvCell c 6) 0 ∗ Reg m c (cw c) 1 qA ∗ Reg m c (cw c) 1 qB ∗ Reg m c (cw c) 1 qC ∗ Reg m c (cw c) 1 qL) -∗ Q ⟨⟩)
        -∗ WP c (k0_part11 (F := F) xM h0 wM h1 aM h2 bM h3 oM h4 gM h5 vM h6 wtM h7 otM h8 cc0_scratch4 cc0_scratch5 cc0_scratch6 cc0_scratch7 c v26 v38) Q) := by
  rw [k0_part11_eq_skeleton]; unfold k0_part11_skel
  simp only [Prog.lift, Prog.bind_op, Prog.bind_ret, Prog.pure_eq_ret]
  iintro ⟨#HR, #Hlev, HO, gO00A, n3, b3, gO00B, n8, b8, r6⟩ Hk
  iapply (op_send m K c 3 (zp c) 0 qA [8, 7, 11, 4, 12, 13] rfl rfl rfl (dev11_eq c) (off8_eq c) rfl rfl) $$ [HO gO00A n3 b3]
  · isplitr; · iexact HR
    isplitl [HO]; · iexact HO
    isplitl [gO00A]; · iexact gO00A
    isplitl [n3]; · iexact n3
    iexact b3
  iintro ⟨HO, e3⟩
  iapply (op_send m K c 8 (zp c) 0 qB [7, 11, 4, 12, 13] rfl rfl rfl (dev12_eq c) (off8_eq c) rfl rfl) $$ [HO gO00B n8 b8]
  · isplitr; · iexact HR
    isplitl [HO]; · iexact HO
    isplitl [gO00B]; · iexact gO00B
    isplitl [n8]; · iexact n8
    iexact b8
  iintro ⟨HO, e8⟩
  iapply (op_recvwait m K c 6 (cw c) 1 [7, 11, 4, 12, 13] (in6 c) rfl rfl (by decide)) $$ [HO r6]
  · isplitr; · iexact HR
    isplitr; · iexact Hlev
    isplitl [HO]; · iexact HO
    iexact r6
  iintro ⟨HO, z6, gR11A, gR11B, gR11C, gR11L⟩
  iapply (WP_ret c)
  iapply Hk
  isplitl [e3]; · iexact e3
  isplitl [e8]; · iexact e8
  isplitl [HO]; · iexact HO
  isplitl [z6]; · iexact z6
  isplitl [gR11A]; · iexact gR11A
  isplitl [gR11B]; · iexact gR11B
  isplitl [gR11C]; · iexact gR11C
  iexact gR11L

theorem part12 {Q : (Vec F S1x512x4096 .fp8e4m3) → sProp (MT nD τ sig Unit (Elt F) ℕ UU ℕ)} {h0 h1 h2 h3 h4 h5 h6 h7 h8} (v26 : BitVec 32) (v39 : BitVec 32) (v76 : BitVec 32):
    iprop(records m K ∗ levAts L lv ∗ OW c (OwS c [7, 11, 4, 12, 13]) ∗ Reg m c (cw c) 1 qA ∗ Snd c 7 ∗ Land c 7 ∗ Reg m c (cw c) 1 qB ∗ Snd c 11 ∗ Land c 11 ∗ Rcv c 10 ∗ Snd c 4 ∗ Land c 4 ∗ Reg m c (zp c) 0 qL)
      ⊢ iprop(((Sent c 7 ∗ Sent c 11 ∗ semVal (recvCell c 10) 0 ∗ Reg m c (zp c) 1 qB ∗ Reg m c (zp c) 1 qC ∗ OW c (OwS c [12, 13]) ∗ Sent c 4 ∗ Reg m c (zp c) 0 qL ∗ Reg m c (zp c) 1 qL) -∗ Q (sv m (zp c)))
        -∗ WP c (k0_part12 (F := F) xM h0 wM h1 aM h2 bM h3 oM h4 gM h5 vM h6 wtM h7 otM h8 cc0_scratch4 cc0_scratch5 cc0_scratch6 cc0_scratch7 c v26 v39 v76) Q) := by
  rw [k0_part12_eq_skeleton]; unfold k0_part12_skel
  simp only [Prog.lift, Prog.bind_op, Prog.bind_ret, Prog.pure_eq_ret]
  iintro ⟨#HR, #Hlev, HO, gR11A, n7, b7, gR11B, n11, b11, r10, n4, b4, gO00L⟩ Hk
  iapply (op_send m K c 7 (cw c) 1 qA [11, 4, 12, 13] rfl rfl rfl (dev13_eq c) (off9_1_eq c) rfl rfl) $$ [HO gR11A n7 b7]
  · isplitr; · iexact HR
    isplitl [HO]; · iexact HO
    isplitl [gR11A]; · iexact gR11A
    isplitl [n7]; · iexact n7
    iexact b7
  iintro ⟨HO, e7⟩
  iapply (op_send m K c 11 (cw c) 1 qB [4, 12, 13] rfl rfl rfl (dev14_eq c) (off9_1_eq c) rfl rfl) $$ [HO gR11B n11 b11]
  · isplitr; · iexact HR
    isplitl [HO]; · iexact HO
    isplitl [gR11B]; · iexact gR11B
    isplitl [n11]; · iexact n11
    iexact b11
  iintro ⟨HO, e11⟩
  iapply (op_recvwait m K c 10 (zp c) 1 [4, 12, 13] (in10 c) rfl rfl (by decide)) $$ [HO r10]
  · isplitr; · iexact HR
    isplitr; · iexact Hlev
    isplitl [HO]; · iexact HO
    iexact r10
  iintro ⟨HO, z10, gO01A, gO01B, gO01C, gO01L⟩
  iapply (op_send m K c 4 (zp c) 1 qA [12, 13] rfl rfl rfl (dev15_eq c) (off10_eq c) rfl rfl) $$ [HO gO01A n4 b4]
  · isplitr; · iexact HR
    isplitl [HO]; · iexact HO
    isplitl [gO01A]; · iexact gO01A
    isplitl [n4]; · iexact n4
    iexact b4
  iintro ⟨HO, e4⟩
  iapply (op_ldslot m c (zp c) (off11_eq c)) $$ [gO00L gO01L]
  · isplitl [gO00L]; · iexact gO00L
    iexact gO01L
  iintro ⟨gO00L, gO01L⟩
  iapply (WP_ret c)
  iapply Hk
  isplitl [e7]; · iexact e7
  isplitl [e11]; · iexact e11
  isplitl [z10]; · iexact z10
  isplitl [gO01B]; · iexact gO01B
  isplitl [gO01C]; · iexact gO01C
  isplitl [HO]; · iexact HO
  isplitl [e4]; · iexact e4
  isplitl [gO00L]; · iexact gO00L
  iexact gO01L

theorem part13 {Q : PUnit → sProp (MT nD τ sig Unit (Elt F) ℕ UU ℕ)} {h0 h1 h2 h3 h4 h5 h6 h7 h8} (v26 : BitVec 32) (v76 : BitVec 32):
    iprop(records m K ∗ levAts L lv ∗ V8all m c ∗ OTany c 1 ∗ RSany c (zp c) ∗ semVal (odCell c 1) 0 ∗ OW c (OwS c [12, 13]) ∗ Rcv c 2)
      ⊢ iprop(((V8all m c ∗ OFl m c 1 (zp c) ∗ OW c (OwS c [12, 13]) ∗ semVal (recvCell c 2) 0 ∗ Reg m c (cw (cw c)) 0 qA ∗ Reg m c (cw (cw c)) 0 qB ∗ Reg m c (cw (cw c)) 0 qC ∗ Reg m c (cw (cw c)) 0 qL) -∗ Q ⟨⟩)
        -∗ WP c (k0_part13 (F := F) xM h0 wM h1 aM h2 bM h3 oM h4 gM h5 vM h6 wtM h7 otM h8 cc0_scratch4 cc0_scratch5 cc0_scratch6 cc0_scratch7 c v26 v76 (scale m c) (sv m (zp c))) Q) := by
  rw [k0_part13_eq_skeleton]; unfold k0_part13_skel
  simp only [Prog.lift, Prog.bind_op, Prog.bind_ret, Prog.pure_eq_ret]
  iintro ⟨#HR, #Hlev, vv, o1, rsO0, od1, HO, r2⟩ Hk
  iapply (op_ldw8 m c) $$ [vv]
  · iexact vv
  iintro vv
  iapply (op_ostore c 1 rfl (tile m c (zp c)) (tile_O0 m c).symm) $$ [o1]
  · iexact o1
  iintro o1
  iapply (op_odma m c 1 (zp c) (off12_eq c) rfl rfl) $$ [o1 rsO0 od1]
  · isplitl [o1]; · iexact o1
    isplitl [rsO0]; · iexact rsO0
    iexact od1
  iintro of1
  iapply (op_recvwait m K c 2 (cw (cw c)) 0 [12, 13] (in2 c) rfl rfl (by decide)) $$ [HO r2]
  · isplitr; · iexact HR
    isplitr; · iexact Hlev
    isplitl [HO]; · iexact HO
    iexact r2
  iintro ⟨HO, z2, gD0A, gD0B, gD0C, gD0L⟩
  iapply (WP_ret c)
  iapply Hk
  isplitl [vv]; · iexact vv
  isplitl [of1]; · iexact of1
  isplitl [HO]; · iexact HO
  isplitl [z2]; · iexact z2
  isplitl [gD0A]; · iexact gD0A
  isplitl [gD0B]; · iexact gD0B
  isplitl [gD0C]; · iexact gD0C
  iexact gD0L

theorem part14 {Q : PUnit → sProp (MT nD τ sig Unit (Elt F) ℕ UU ℕ)} {h0 h1 h2 h3 h4 h5 h6 h7 h8} (v26 : BitVec 32) (v38 : BitVec 32) (v39 : BitVec 32):
    iprop(records m K ∗ levAts L lv ∗ OW c (OwS c [12, 13]) ∗ Reg m c (cw (cw c)) 0 qA ∗ Snd c 12 ∗ Land c 12 ∗ Rcv c 11 ∗ Snd c 13 ∗ Land c 13)
      ⊢ iprop(((Sent c 12 ∗ semVal (recvCell c 11) 0 ∗ Reg m c (zp (cw c)) 1 qB ∗ Reg m c (zp (cw c)) 1 qC ∗ Reg m c (zp (cw c)) 1 qL ∗ OW c (OwS c []) ∗ Sent c 13) -∗ Q ⟨⟩)
        -∗ WP c (k0_part14 (F := F) xM h0 wM h1 aM h2 bM h3 oM h4 gM h5 vM h6 wtM h7 otM h8 cc0_scratch4 cc0_scratch5 cc0_scratch6 cc0_scratch7 c v26 v38 v39) Q) := by
  rw [k0_part14_eq_skeleton]; unfold k0_part14_skel
  simp only [Prog.lift, Prog.bind_op, Prog.bind_ret, Prog.pure_eq_ret]
  iintro ⟨#HR, #Hlev, HO, gD0A, n12, b12, r11, n13, b13⟩ Hk
  iapply (op_send m K c 12 (cw (cw c)) 0 qA [13] rfl rfl rfl (dev16_eq c) (off7_2_eq c) rfl rfl) $$ [HO gD0A n12 b12]
  · isplitr; · iexact HR
    isplitl [HO]; · iexact HO
    isplitl [gD0A]; · iexact gD0A
    isplitl [n12]; · iexact n12
    iexact b12
  iintro ⟨HO, e12⟩
  iapply (op_recvwait m K c 11 (zp (cw c)) 1 [13] (in11 c) rfl rfl (by decide)) $$ [HO r11]
  · isplitr; · iexact HR
    isplitr; · iexact Hlev
    isplitl [HO]; · iexact HO
    iexact r11
  iintro ⟨HO, z11, gOR1A, gOR1B, gOR1C, gOR1L⟩
  iapply (op_send m K c 13 (zp (cw c)) 1 qA [] rfl rfl rfl (dev17_eq c) (off13_1_eq c) rfl rfl) $$ [HO gOR1A n13 b13]
  · isplitr; · iexact HR
    isplitl [HO]; · iexact HO
    isplitl [gOR1A]; · iexact gOR1A
    isplitl [n13]; · iexact n13
    iexact b13
  iintro ⟨HO, e13⟩
  iapply (WP_ret c)
  iapply Hk
  isplitl [e12]; · iexact e12
  isplitl [z11]; · iexact z11
  isplitl [gOR1B]; · iexact gOR1B
  isplitl [gOR1C]; · iexact gOR1C
  isplitl [gOR1L]; · iexact gOR1L
  isplitl [HO]; · iexact HO
  iexact e13

theorem part15 {Q : PUnit → sProp (MT nD τ sig Unit (Elt F) ℕ UU ℕ)} {h0 h1 h2 h3 h4 h5 h6 h7 h8} (v63 : BitVec 32):
    iprop(records m K ∗ levAts L lv ∗ OW c (OwS c []) ∗ Rcv c 7 ∗ Reg m c (cw (cw c)) 0 qL ∗ V8all m c ∗ OFl m c 0 c)
      ⊢ iprop(((semVal (recvCell c 7) 0 ∗ Reg m c (cw (cw c)) 1 qA ∗ Reg m c (cw (cw c)) 1 qB ∗ Reg m c (cw (cw c)) 1 qC ∗ Reg m c (cw (cw c)) 0 qL ∗ Reg m c (cw (cw c)) 1 qL ∗ V8all m c ∗ OW c (OwS c []) ∗ semVal (odCell c 0) 0 ∗ RS m c c ∗ OTw c 0 (tile m c (cw (cw c)))) -∗ Q ⟨⟩)
        -∗ WP c (k0_part15 (F := F) xM h0 wM h1 aM h2 bM h3 oM h4 gM h5 vM h6 wtM h7 otM h8 cc0_scratch4 cc0_scratch5 cc0_scratch6 cc0_scratch7 c v63 (scale m c)) Q) := by
  rw [k0_part15_eq_skeleton]; unfold k0_part15_skel
  simp only [Prog.lift, Prog.bind_op, Prog.bind_ret, Prog.pure_eq_ret]
  iintro ⟨#HR, #Hlev, HO, r7, gD0L, vv, of0⟩ Hk
  iapply (op_recvwait m K c 7 (cw (cw c)) 1 [] (in7 c) rfl rfl (by decide)) $$ [HO r7]
  · isplitr; · iexact HR
    isplitr; · iexact Hlev
    isplitl [HO]; · iexact HO
    iexact r7
  iintro ⟨HO, z7, gD1A, gD1B, gD1C, gD1L⟩
  iapply (op_ldslot m c (cw (cw c)) (off14_2_eq c)) $$ [gD0L gD1L]
  · isplitl [gD0L]; · iexact gD0L
    iexact gD1L
  iintro ⟨gD0L, gD1L⟩
  iapply (op_ldw8 m c) $$ [vv]
  · iexact vv
  iintro vv
  iapply (op_owait m c 0 c [] rfl) $$ [HO of0]
  · isplitr; · iexact Hlev
    isplitl [HO]; · iexact HO
    iexact of0
  iintro ⟨HO, od0, rsmy, o0⟩
  iapply (op_ostore c 0 rfl (tile m c (cw (cw c))) (tile_D m c).symm) $$ [o0]
  · iexact o0
  iintro o0
  iapply (WP_ret c)
  iapply Hk
  isplitl [z7]; · iexact z7
  isplitl [gD1A]; · iexact gD1A
  isplitl [gD1B]; · iexact gD1B
  isplitl [gD1C]; · iexact gD1C
  isplitl [gD0L]; · iexact gD0L
  isplitl [gD1L]; · iexact gD1L
  isplitl [vv]; · iexact vv
  isplitl [HO]; · iexact HO
  isplitl [od0]; · iexact od0
  isplitl [rsmy]; · iexact rsmy
  iexact o0

theorem part16 {Q : (Σ' (_ : FVec F S512x1024 .f32) (_ : FVec F S512x1024 .f32), FVec F S512x1024 .f32) → sProp (MT nD τ sig Unit (Elt F) ℕ UU ℕ)} {h0 h1 h2 h3 h4 h5 h6 h7 h8} (v26 : BitVec 32) (v51 : BitVec 32):
    iprop(records m K ∗ levAts L lv ∗ OTw c 0 (tile m c (cw (cw c))) ∗ RSany c (cw (cw c)) ∗ semVal (odCell c 0) 0 ∗ OW c (OwS c []) ∗ Rcv c 1 ∗ Reg m c (ccw c) 0 qL ∗ V8all m c ∗ OFl m c 1 (zp c))
      ⊢ iprop(((OFl m c 0 (cw (cw c)) ∗ semVal (recvCell c 1) 0 ∗ Reg m c (ccw c) 1 qA ∗ Reg m c (ccw c) 1 qB ∗ Reg m c (ccw c) 1 qC ∗ Reg m c (ccw c) 0 qL ∗ Reg m c (ccw c) 1 qL ∗ V8all m c ∗ OW c (OwS c []) ∗ semVal (odCell c 1) 0 ∗ RS m c (zp c) ∗ OTany c 1) -∗ Q ⟨k0_pay11 (scale m c) (sv m (ccw c)) (w8v m c), k0_pay12 (scale m c) (sv m (ccw c)) (w8v m c), k0_pay13 (F := F)⟩)
        -∗ WP c (k0_part16 (F := F) xM h0 wM h1 aM h2 bM h3 oM h4 gM h5 vM h6 wtM h7 otM h8 cc0_scratch4 cc0_scratch5 cc0_scratch6 cc0_scratch7 c v26 v51 (scale m c)) Q) := by
  rw [k0_part16_eq_skeleton]; unfold k0_part16_skel
  simp only [Prog.lift, Prog.bind_op, Prog.bind_ret, Prog.pure_eq_ret]
  iintro ⟨#HR, #Hlev, o0, rsD, od0, HO, r1, gL10L, vv, of1⟩ Hk
  iapply (op_odma m c 0 (cw (cw c)) (off15_2_eq c) rfl rfl) $$ [o0 rsD od0]
  · isplitl [o0]; · iexact o0
    isplitl [rsD]; · iexact rsD
    iexact od0
  iintro of0
  iapply (op_recvwait m K c 1 (ccw c) 1 [] (in1 c) rfl rfl (by decide)) $$ [HO r1]
  · isplitr; · iexact HR
    isplitr; · iexact Hlev
    isplitl [HO]; · iexact HO
    iexact r1
  iintro ⟨HO, z1, gL11A, gL11B, gL11C, gL11L⟩
  iapply (op_ldslot m c (ccw c) (off14_3_eq c)) $$ [gL10L gL11L]
  · isplitl [gL10L]; · iexact gL10L
    iexact gL11L
  iintro ⟨gL10L, gL11L⟩
  iapply (op_ldw8 m c) $$ [vv]
  · iexact vv
  iintro vv
  iapply (op_owait m c 1 (zp c) [] rfl) $$ [HO of1]
  · isplitr; · iexact Hlev
    isplitl [HO]; · iexact HO
    iexact of1
  iintro ⟨HO, od1, rsO0, o1⟩
  iapply (WP_ret c)
  iapply Hk
  isplitl [of0]; · iexact of0
  isplitl [z1]; · iexact z1
  isplitl [gL11A]; · iexact gL11A
  isplitl [gL11B]; · iexact gL11B
  isplitl [gL11C]; · iexact gL11C
  isplitl [gL10L]; · iexact gL10L
  isplitl [gL11L]; · iexact gL11L
  isplitl [vv]; · iexact vv
  isplitl [HO]; · iexact HO
  isplitl [od1]; · iexact od1
  isplitl [rsO0]; · iexact rsO0
  iexact o1

theorem part17 {Q : (Σ' (_ : FVec F S512x1024 .f32), FVec F S512x1024 .f32) → sProp (MT nD τ sig Unit (Elt F) ℕ UU ℕ)} {h0 h1 h2 h3 h4 h5 h6 h7 h8} (v26 : BitVec 32) (v51 : BitVec 32) (v75 : BitVec 32):
    iprop(records m K ∗ levAts L lv ∗ OTany c 1 ∗ RSany c (ccw c) ∗ semVal (odCell c 1) 0 ∗ OW c (OwS c []) ∗ Rcv c 5 ∗ Reg m c (cw c) 1 qL ∗ V8all m c)
      ⊢ iprop(((OFl m c 1 (ccw c) ∗ OW c (OwS c []) ∗ semVal (recvCell c 5) 0 ∗ Reg m c (cw c) 0 qA ∗ Reg m c (cw c) 0 qB ∗ Reg m c (cw c) 0 qC ∗ Reg m c (cw c) 0 qL ∗ Reg m c (cw c) 1 qL ∗ V8all m c) -∗ Q ⟨k0_pay15 (scale m c) (sv m (cw c)) (w8v m c), k0_pay16 (scale m c) (sv m (cw c)) (w8v m c)⟩)
        -∗ WP c (k0_part17 (F := F) xM h0 wM h1 aM h2 bM h3 oM h4 gM h5 vM h6 wtM h7 otM h8 cc0_scratch4 cc0_scratch5 cc0_scratch6 cc0_scratch7 c v26 v51 v75 (scale m c) (k0_pay11 (scale m c) (sv m (ccw c)) (w8v m c)) (k0_pay12 (scale m c) (sv m (ccw c)) (w8v m c)) (k0_pay13 (F := F))) Q) := by
  rw [k0_part17_eq_skeleton]; unfold k0_part17_skel
  simp only [Prog.lift, Prog.bind_op, Prog.bind_ret, Prog.pure_eq_ret]
  iintro ⟨#HR, #Hlev, o1, rsL1, od1, HO, r5, gR11L, vv⟩ Hk
  iapply (op_ostore c 1 rfl (tile m c (ccw c)) (tile_L1 m c).symm) $$ [o1]
  · iexact o1
  iintro o1
  iapply (op_odma m c 1 (ccw c) (off15_3_eq c) rfl rfl) $$ [o1 rsL1 od1]
  · isplitl [o1]; · iexact o1
    isplitl [rsL1]; · iexact rsL1
    iexact od1
  iintro of1
  iapply (op_recvwait m K c 5 (cw c) 0 [] (in5 c) rfl rfl (by decide)) $$ [HO r5]
  · isplitr; · iexact HR
    isplitr; · iexact Hlev
    isplitl [HO]; · iexact HO
    iexact r5
  iintro ⟨HO, z5, gR10A, gR10B, gR10C, gR10L⟩
  iapply (op_ldslot m c (cw c) (off14_1_eq c)) $$ [gR10L gR11L]
  · isplitl [gR10L]; · iexact gR10L
    iexact gR11L
  iintro ⟨gR10L, gR11L⟩
  iapply (op_ldw8 m c) $$ [vv]
  · iexact vv
  iintro vv
  iapply (WP_ret c)
  iapply Hk
  isplitl [of1]; · iexact of1
  isplitl [HO]; · iexact HO
  isplitl [z5]; · iexact z5
  isplitl [gR10A]; · iexact gR10A
  isplitl [gR10B]; · iexact gR10B
  isplitl [gR10C]; · iexact gR10C
  isplitl [gR10L]; · iexact gR10L
  isplitl [gR11L]; · iexact gR11L
  iexact vv

theorem part18 {Q : (FVec F S512x4096 .fp8e4m3) → sProp (MT nD τ sig Unit (Elt F) ℕ UU ℕ)} {h0 h1 h2 h3 h4 h5 h6 h7 h8} (v26 : BitVec 32) (v75 : BitVec 32) (v100 : BitVec 32):
    iprop(records m K ∗ levAts L lv ∗ OW c (OwS c []) ∗ OFl m c 0 (cw (cw c)) ∗ RSany c (cw c) ∗ Rcv c 8 ∗ Reg m c (zp (cw c)) 1 qL)
      ⊢ iprop(((RS m c (cw (cw c)) ∗ OFl m c 0 (cw c) ∗ OW c (OwS c []) ∗ semVal (recvCell c 8) 0 ∗ Reg m c (zp (cw c)) 0 qA ∗ Reg m c (zp (cw c)) 0 qB ∗ Reg m c (zp (cw c)) 0 qC ∗ Reg m c (zp (cw c)) 0 qL ∗ Reg m c (zp (cw c)) 1 qL) -∗ Q (k0_pay18 (sv m (zp (cw c)))))
        -∗ WP c (k0_part18 (F := F) xM h0 wM h1 aM h2 bM h3 oM h4 gM h5 vM h6 wtM h7 otM h8 cc0_scratch4 cc0_scratch5 cc0_scratch6 cc0_scratch7 c v26 v75 v100 (k0_pay15 (scale m c) (sv m (cw c)) (w8v m c)) (k0_pay16 (scale m c) (sv m (cw c)) (w8v m c))) Q) := by
  rw [k0_part18_eq_skeleton]; unfold k0_part18_skel
  simp only [Prog.lift, Prog.bind_op, Prog.bind_ret, Prog.pure_eq_ret]
  iintro ⟨#HR, #Hlev, HO, of0, rsR1, r8, gOR1L⟩ Hk
  iapply (op_owait m c 0 (cw (cw c)) [] rfl) $$ [HO of0]
  · isplitr; · iexact Hlev
    isplitl [HO]; · iexact HO
    iexact of0
  iintro ⟨HO, od0, rsD, o0⟩
  iapply (op_ostore c 0 rfl (tile m c (cw c)) (tile_R1 m c).symm) $$ [o0]
  · iexact o0
  iintro o0
  iapply (op_odma m c 0 (cw c) (off15_1_eq c) rfl rfl) $$ [o0 rsR1 od0]
  · isplitl [o0]; · iexact o0
    isplitl [rsR1]; · iexact rsR1
    iexact od0
  iintro of0
  iapply (op_recvwait m K c 8 (zp (cw c)) 0 [] (in8 c) rfl rfl (by decide)) $$ [HO r8]
  · isplitr; · iexact HR
    isplitr; · iexact Hlev
    isplitl [HO]; · iexact HO
    iexact r8
  iintro ⟨HO, z8, gOR0A, gOR0B, gOR0C, gOR0L⟩
  iapply (op_ldslot m c (zp (cw c)) (off17_eq c)) $$ [gOR0L gOR1L]
  · isplitl [gOR0L]; · iexact gOR0L
    iexact gOR1L
  iintro ⟨gOR0L, gOR1L⟩
  iapply (WP_ret c)
  iapply Hk
  isplitl [rsD]; · iexact rsD
  isplitl [of0]; · iexact of0
  isplitl [HO]; · iexact HO
  isplitl [z8]; · iexact z8
  isplitl [gOR0A]; · iexact gOR0A
  isplitl [gOR0B]; · iexact gOR0B
  isplitl [gOR0C]; · iexact gOR0C
  isplitl [gOR0L]; · iexact gOR0L
  iexact gOR1L

theorem part19 {Q : PUnit → sProp (MT nD τ sig Unit (Elt F) ℕ UU ℕ)} {h0 h1 h2 h3 h4 h5 h6 h7 h8} (v26 : BitVec 32) (v100 : BitVec 32):
    iprop(records m K ∗ levAts L lv ∗ V8all m c ∗ OW c (OwS c []) ∗ OFl m c 1 (ccw c) ∗ RSany c (zp (cw c)))
      ⊢ iprop(((V8all m c ∗ OW c (OwS c []) ∗ RS m c (ccw c) ∗ OFl m c 1 (zp (cw c))) -∗ Q ⟨⟩)
        -∗ WP c (k0_part19 (F := F) xM h0 wM h1 aM h2 bM h3 oM h4 gM h5 vM h6 wtM h7 otM h8 cc0_scratch4 cc0_scratch5 cc0_scratch6 cc0_scratch7 c v26 v100 (scale m c) (k0_pay18 (sv m (zp (cw c))))) Q) := by
  rw [k0_part19_eq_skeleton]; unfold k0_part19_skel
  simp only [Prog.lift, Prog.bind_op, Prog.bind_ret, Prog.pure_eq_ret]
  iintro ⟨#HR, #Hlev, vv, HO, of1, rsOR⟩ Hk
  iapply (op_ldw8 m c) $$ [vv]
  · iexact vv
  iintro vv
  iapply (op_owait m c 1 (ccw c) [] rfl) $$ [HO of1]
  · isplitr; · iexact Hlev
    isplitl [HO]; · iexact HO
    iexact of1
  iintro ⟨HO, od1, rsL1, o1⟩
  iapply (op_ostore c 1 rfl (tile m c (zp (cw c))) (tile_OR m c).symm) $$ [o1]
  · iexact o1
  iintro o1
  iapply (op_odma m c 1 (zp (cw c)) (off18_1_eq c) rfl rfl) $$ [o1 rsOR od1]
  · isplitl [o1]; · iexact o1
    isplitl [rsOR]; · iexact rsOR
    iexact od1
  iintro of1
  iapply (WP_ret c)
  iapply Hk
  isplitl [vv]; · iexact vv
  isplitl [HO]; · iexact HO
  isplitl [rsL1]; · iexact rsL1
  iexact of1

end Parts

end Cert.GatherProof

end
-- ==== Proof.PartsC.lean ====
/-
  The parts of the body that compute two tiles by halves and wait for everything still under way.
-/
module

public import proofs.«01_k».proof.Proof.PartsA

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts
variable (K : Dev nD × CI → ℕ) (c : Dev nD)

theorem part20 {Q : PUnit → sProp (MT nD τ sig Unit (Elt F) ℕ UU ℕ)} {h0 h1 h2 h3 h4 h5 h6 h7 h8} (v26 : BitVec 32) (v88 : BitVec 32):
    iprop(records m K ∗ levAts L lv ∗ OW c (OwS c []) ∗ Rcv c 3 ∗ OFl m c 0 (cw c) ∗ V8all m c)
      ⊢ iprop(((semVal (recvCell c 3) 0 ∗ Reg m c (zp (ccw c)) 0 qA ∗ Reg m c (zp (ccw c)) 0 qB ∗ Reg m c (zp (ccw c)) 0 qC ∗ OW c (OwS c []) ∗ semVal (odCell c 0) 0 ∗ RS m c (cw c) ∗ OHany c 0 1 ∗ Reg m c (zp (ccw c)) 0 qL ∗ V8all m c ∗ OHw c 0 0 (tile2 m c (zp (ccw c)))) -∗ Q ⟨⟩)
        -∗ WP c (k0_part20 (F := F) xM h0 wM h1 aM h2 bM h3 oM h4 gM h5 vM h6 wtM h7 otM h8 cc0_scratch4 cc0_scratch5 cc0_scratch6 cc0_scratch7 c v26 v88 (scale m c)) Q) := by
  rw [k0_part20_eq_skeleton]; unfold k0_part20_skel
  simp only [Prog.lift, Prog.bind_op, Prog.bind_ret, Prog.pure_eq_ret]
  iintro ⟨#HR, #Hlev, HO, r3, of0, vv⟩ Hk
  iapply (op_recvwait m K c 3 (zp (ccw c)) 0 [] (in3 c) rfl rfl (by decide)) $$ [HO r3]
  · isplitr; · iexact HR
    isplitr; · iexact Hlev
    isplitl [HO]; · iexact HO
    iexact r3
  iintro ⟨HO, z3, gOL0A, gOL0B, gOL0C, gOL0L⟩
  iapply (op_owait m c 0 (cw c) [] rfl) $$ [HO of0]
  · isplitr; · iexact Hlev
    isplitl [HO]; · iexact HO
    iexact of0
  iintro ⟨HO, od0, rsR1, o0⟩
  ihave o0 := (OT_halves c 0) $$ o0
  icases o0 with ⟨o00, o01⟩
  iapply (op_ldhalf m c (zp (ccw c)) 0 (off19_3_eq c)) $$ [gOL0L]
  · iexact gOL0L
  iintro gOL0L
  iapply (op_ldw8 m c) $$ [vv]
  · iexact vv
  iintro vv
  iapply (op_ohstore m c 0 0 (zp (ccw c)) rfl rfl) $$ [o00]
  · iexact o00
  iintro o00
  iapply (WP_ret c)
  iapply Hk
  isplitl [z3]; · iexact z3
  isplitl [gOL0A]; · iexact gOL0A
  isplitl [gOL0B]; · iexact gOL0B
  isplitl [gOL0C]; · iexact gOL0C
  isplitl [HO]; · iexact HO
  isplitl [od0]; · iexact od0
  isplitl [rsR1]; · iexact rsR1
  isplitl [o01]; · iexact o01
  isplitl [gOL0L]; · iexact gOL0L
  isplitl [vv]; · iexact vv
  iexact o00

theorem part21 {Q : PUnit → sProp (MT nD τ sig Unit (Elt F) ℕ UU ℕ)} {h0 h1 h2 h3 h4 h5 h6 h7 h8} (v26 : BitVec 32) (v112 : BitVec 32):
    iprop(records m K ∗ levAts L lv ∗ OW c (OwS c []) ∗ Rcv c 12 ∗ OFl m c 1 (zp (cw c)) ∗ V8all m c)
      ⊢ iprop(((semVal (recvCell c 12) 0 ∗ Reg m c (zp (cw (cw c))) 0 qA ∗ Reg m c (zp (cw (cw c))) 0 qB ∗ Reg m c (zp (cw (cw c))) 0 qC ∗ OW c (OwS c []) ∗ semVal (odCell c 1) 0 ∗ RS m c (zp (cw c)) ∗ OHany c 1 1 ∗ Reg m c (zp (cw (cw c))) 0 qL ∗ V8all m c ∗ OHw c 1 0 (tile2 m c (zp (cw (cw c))))) -∗ Q ⟨⟩)
        -∗ WP c (k0_part21 (F := F) xM h0 wM h1 aM h2 bM h3 oM h4 gM h5 vM h6 wtM h7 otM h8 cc0_scratch4 cc0_scratch5 cc0_scratch6 cc0_scratch7 c v26 v112 (scale m c)) Q) := by
  rw [k0_part21_eq_skeleton]; unfold k0_part21_skel
  simp only [Prog.lift, Prog.bind_op, Prog.bind_ret, Prog.pure_eq_ret]
  iintro ⟨#HR, #Hlev, HO, r12, of1, vv⟩ Hk
  iapply (op_recvwait m K c 12 (zp (cw (cw c))) 0 [] (in12 c) rfl rfl (by decide)) $$ [HO r12]
  · isplitr; · iexact HR
    isplitr; · iexact Hlev
    isplitl [HO]; · iexact HO
    iexact r12
  iintro ⟨HO, z12, gOD0A, gOD0B, gOD0C, gOD0L⟩
  iapply (op_owait m c 1 (zp (cw c)) [] rfl) $$ [HO of1]
  · isplitr; · iexact Hlev
    isplitl [HO]; · iexact HO
    iexact of1
  iintro ⟨HO, od1, rsOR, o1⟩
  ihave o1 := (OT_halves c 1) $$ o1
  icases o1 with ⟨o10, o11⟩
  iapply (op_ldhalf m c (zp (cw (cw c))) 0 (off19_2_eq c)) $$ [gOD0L]
  · iexact gOD0L
  iintro gOD0L
  iapply (op_ldw8 m c) $$ [vv]
  · iexact vv
  iintro vv
  iapply (op_ohstore m c 1 0 (zp (cw (cw c))) rfl rfl) $$ [o10]
  · iexact o10
  iintro o10
  iapply (WP_ret c)
  iapply Hk
  isplitl [z12]; · iexact z12
  isplitl [gOD0A]; · iexact gOD0A
  isplitl [gOD0B]; · iexact gOD0B
  isplitl [gOD0C]; · iexact gOD0C
  isplitl [HO]; · iexact HO
  isplitl [od1]; · iexact od1
  isplitl [rsOR]; · iexact rsOR
  isplitl [o11]; · iexact o11
  isplitl [gOD0L]; · iexact gOD0L
  isplitl [vv]; · iexact vv
  iexact o10

theorem part22 {Q : (Σ' (_ : BitVec 32), BitVec 32) → sProp (MT nD τ sig Unit (Elt F) ℕ UU ℕ)} {h0 h1 h2 h3 h4 h5 h6 h7 h8} (v26 : BitVec 32) (v88 : BitVec 32):
    iprop(records m K ∗ levAts L lv ∗ OW c (OwS c []) ∗ Rcv c 4 ∗ V8all m c ∗ OHany c 0 1 ∗ OHw c 0 0 (tile2 m c (zp (ccw c))) ∗ RSany c (zp (ccw c)) ∗ semVal (odCell c 0) 0)
      ⊢ iprop(((OW c (OwS c []) ∗ semVal (recvCell c 4) 0 ∗ Reg m c (zp (ccw c)) 1 qA ∗ Reg m c (zp (ccw c)) 1 qB ∗ Reg m c (zp (ccw c)) 1 qC ∗ Reg m c (zp (ccw c)) 1 qL ∗ V8all m c ∗ OFl m c 0 (zp (ccw c))) -∗ (∀ r, Q r))
        -∗ WP c (k0_part22 (F := F) xM h0 wM h1 aM h2 bM h3 oM h4 gM h5 vM h6 wtM h7 otM h8 cc0_scratch4 cc0_scratch5 cc0_scratch6 cc0_scratch7 c v26 v88 (scale m c)) Q) := by
  rw [k0_part22_eq_skeleton]; unfold k0_part22_skel
  simp only [Prog.lift, Prog.bind_op, Prog.bind_ret, Prog.pure_eq_ret]
  iintro ⟨#HR, #Hlev, HO, r4, vv, o01, o00, rsOL, od0⟩ Hk
  iapply (op_recvwait m K c 4 (zp (ccw c)) 1 [] (in4 c) rfl rfl (by decide)) $$ [HO r4]
  · isplitr; · iexact HR
    isplitr; · iexact Hlev
    isplitl [HO]; · iexact HO
    iexact r4
  iintro ⟨HO, z4, gOL1A, gOL1B, gOL1C, gOL1L⟩
  iapply (op_ldhalf m c (zp (ccw c)) 1 (off20_3_eq c)) $$ [gOL1L]
  · iexact gOL1L
  iintro gOL1L
  iapply (op_ldw8 m c) $$ [vv]
  · iexact vv
  iintro vv
  iapply (op_ohstore m c 0 1 (zp (ccw c)) rfl rfl) $$ [o01]
  · iexact o01
  iintro o01
  ihave o0 := (OT_join c 0 (tile2 m c (zp (ccw c)))) $$ [o00 o01]
  · isplitl [o00]; · iexact o00
    iexact o01
  rw [← tile_OL m c]
  iapply (op_odma m c 0 (zp (ccw c)) (off18_3_eq c) rfl rfl) $$ [o0 rsOL od0]
  · isplitl [o0]; · iexact o0
    isplitl [rsOL]; · iexact rsOL
    iexact od0
  iintro of0
  iapply (WP_ret c)
  ihave Hk := Hk $$ [HO z4 gOL1A gOL1B gOL1C gOL1L vv of0]
  · isplitl [HO]; · iexact HO
    isplitl [z4]; · iexact z4
    isplitl [gOL1A]; · iexact gOL1A
    isplitl [gOL1B]; · iexact gOL1B
    isplitl [gOL1C]; · iexact gOL1C
    isplitl [gOL1L]; · iexact gOL1L
    isplitl [vv]; · iexact vv
    iexact of0
  iapply Hk

theorem part23 {Q : PUnit → sProp (MT nD τ sig Unit (Elt F) ℕ UU ℕ)} {h0 h1 h2 h3 h4 h5 h6 h7 h8} (v112 : BitVec 32) (v697 : BitVec 32) (c0 : BitVec 32):
    iprop(records m K ∗ levAts L lv ∗ OW c (OwS c []) ∗ Rcv c 13 ∗ V8all m c ∗ OHany c 1 1 ∗ OHw c 1 0 (tile2 m c (zp (cw (cw c)))) ∗ RSany c (zp (cw (cw c))) ∗ semVal (odCell c 1) 0)
      ⊢ iprop(((OW c (OwS c []) ∗ semVal (recvCell c 13) 0 ∗ Reg m c (zp (cw (cw c))) 1 qA ∗ Reg m c (zp (cw (cw c))) 1 qB ∗ Reg m c (zp (cw (cw c))) 1 qC ∗ Reg m c (zp (cw (cw c))) 1 qL ∗ V8all m c ∗ OFl m c 1 (zp (cw (cw c)))) -∗ Q ⟨⟩)
        -∗ WP c (k0_part23 (F := F) xM h0 wM h1 aM h2 bM h3 oM h4 gM h5 vM h6 wtM h7 otM h8 cc0_scratch4 cc0_scratch5 cc0_scratch6 cc0_scratch7 c v112 (scale m c) v697 c0) Q) := by
  rw [k0_part23_eq_skeleton]; unfold k0_part23_skel
  simp only [Prog.lift, Prog.bind_op, Prog.bind_ret, Prog.pure_eq_ret]
  iintro ⟨#HR, #Hlev, HO, r13, vv, o11, o10, rsOD, od1⟩ Hk
  iapply (op_recvwait m K c 13 (zp (cw (cw c))) 1 [] (in13 c) rfl rfl (by decide)) $$ [HO r13]
  · isplitr; · iexact HR
    isplitr; · iexact Hlev
    isplitl [HO]; · iexact HO
    iexact r13
  iintro ⟨HO, z13, gOD1A, gOD1B, gOD1C, gOD1L⟩
  iapply (op_ldhalf m c (zp (cw (cw c))) 1 (off20_2_eq c)) $$ [gOD1L]
  · iexact gOD1L
  iintro gOD1L
  iapply (op_ldw8 m c) $$ [vv]
  · iexact vv
  iintro vv
  iapply (op_ohstore m c 1 1 (zp (cw (cw c))) rfl rfl) $$ [o11]
  · iexact o11
  iintro o11
  ihave o1 := (OT_join c 1 (tile2 m c (zp (cw (cw c))))) $$ [o10 o11]
  · isplitl [o10]; · iexact o10
    iexact o11
  rw [← tile_OD m c]
  iapply (op_odma m c 1 (zp (cw (cw c))) (off18_2_eq c) rfl rfl) $$ [o1 rsOD od1]
  · isplitl [o1]; · iexact o1
    isplitl [rsOD]; · iexact rsOD
    iexact od1
  iintro of1
  iapply (WP_ret c)
  iapply Hk
  isplitl [HO]; · iexact HO
  isplitl [z13]; · iexact z13
  isplitl [gOD1A]; · iexact gOD1A
  isplitl [gOD1B]; · iexact gOD1B
  isplitl [gOD1C]; · iexact gOD1C
  isplitl [gOD1L]; · iexact gOD1L
  isplitl [vv]; · iexact vv
  iexact of1

theorem part24 {Q : PUnit → sProp (MT nD τ sig Unit (Elt F) ℕ UU ℕ)} {h0 h1 h2 h3 h4 h5 h6 h7 h8} :
    iprop(records m K ∗ levAts L lv ∗ OW c (OwS c []) ∗ OFl m c 0 (zp (ccw c)) ∗ OFl m c 1 (zp (cw (cw c))) ∗ Sent c 0 ∗ Sent c 1)
      ⊢ iprop(((semVal (odCell c 0) 0 ∗ RS m c (zp (ccw c)) ∗ OTany c 0 ∗ semVal (odCell c 1) 0 ∗ RS m c (zp (cw (cw c))) ∗ OTany c 1 ∗ semVal (sendCell c 0) 0 ∗ Reg m c c 0 qA ∗ OW c (OwS c []) ∗ semVal (sendCell c 1) 0 ∗ Reg m c c 1 qA) -∗ Q ⟨⟩)
        -∗ WP c (k0_part24 (F := F) xM h0 wM h1 aM h2 bM h3 oM h4 gM h5 vM h6 wtM h7 otM h8 cc0_scratch4 cc0_scratch5 cc0_scratch6 cc0_scratch7 c) Q) := by
  rw [k0_part24_eq_skeleton]; unfold k0_part24_skel
  simp only [Prog.lift, Prog.bind_op, Prog.bind_ret, Prog.pure_eq_ret]
  iintro ⟨#HR, #Hlev, HO, of0, of1, e0, e1⟩ Hk
  iapply (op_owait m c 0 (zp (ccw c)) [] rfl) $$ [HO of0]
  · isplitr; · iexact Hlev
    isplitl [HO]; · iexact HO
    iexact of0
  iintro ⟨HO, od0, rsOL, o0⟩
  iapply (op_owait m c 1 (zp (cw (cw c))) [] rfl) $$ [HO of1]
  · isplitr; · iexact Hlev
    isplitl [HO]; · iexact HO
    iexact of1
  iintro ⟨HO, od1, rsOD, o1⟩
  iapply (op_sendwait m K c 0 c 0 qA rfl rfl rfl rfl) $$ [HO e0]
  · isplitr; · iexact HR
    isplitl [HO]; · iexact HO
    iexact e0
  iintro ⟨HO, y0, gmy0A⟩
  iapply (op_sendwait m K c 1 c 1 qA rfl rfl rfl rfl) $$ [HO e1]
  · isplitr; · iexact HR
    isplitl [HO]; · iexact HO
    iexact e1
  iintro ⟨HO, y1, gmy1A⟩
  iapply (WP_ret c)
  iapply Hk
  isplitl [od0]; · iexact od0
  isplitl [rsOL]; · iexact rsOL
  isplitl [o0]; · iexact o0
  isplitl [od1]; · iexact od1
  isplitl [rsOD]; · iexact rsOD
  isplitl [o1]; · iexact o1
  isplitl [y0]; · iexact y0
  isplitl [gmy0A]; · iexact gmy0A
  isplitl [HO]; · iexact HO
  isplitl [y1]; · iexact y1
  iexact gmy1A

theorem part25 {Q : PUnit → sProp (MT nD τ sig Unit (Elt F) ℕ UU ℕ)} {h0 h1 h2 h3 h4 h5 h6 h7 h8} :
    iprop(records m K ∗ levAts L lv ∗ OW c (OwS c []) ∗ Sent c 2 ∗ Sent c 3 ∗ Sent c 4 ∗ Sent c 5 ∗ Sent c 6)
      ⊢ iprop(((semVal (sendCell c 2) 0 ∗ Reg m c (ccw c) 0 qA ∗ semVal (sendCell c 3) 0 ∗ Reg m c (zp c) 0 qA ∗ semVal (sendCell c 4) 0 ∗ Reg m c (zp c) 1 qA ∗ semVal (sendCell c 5) 0 ∗ Reg m c c 0 qB ∗ OW c (OwS c []) ∗ semVal (sendCell c 6) 0 ∗ Reg m c c 1 qB) -∗ Q ⟨⟩)
        -∗ WP c (k0_part25 (F := F) xM h0 wM h1 aM h2 bM h3 oM h4 gM h5 vM h6 wtM h7 otM h8 cc0_scratch4 cc0_scratch5 cc0_scratch6 cc0_scratch7 c) Q) := by
  rw [k0_part25_eq_skeleton]; unfold k0_part25_skel
  simp only [Prog.lift, Prog.bind_op, Prog.bind_ret, Prog.pure_eq_ret]
  iintro ⟨#HR, #Hlev, HO, e2, e3, e4, e5, e6⟩ Hk
  iapply (op_sendwait m K c 2 (ccw c) 0 qA rfl rfl rfl rfl) $$ [HO e2]
  · isplitr; · iexact HR
    isplitl [HO]; · iexact HO
    iexact e2
  iintro ⟨HO, y2, gL10A⟩
  iapply (op_sendwait m K c 3 (zp c) 0 qA rfl rfl rfl rfl) $$ [HO e3]
  · isplitr; · iexact HR
    isplitl [HO]; · iexact HO
    iexact e3
  iintro ⟨HO, y3, gO00A⟩
  iapply (op_sendwait m K c 4 (zp c) 1 qA rfl rfl rfl rfl) $$ [HO e4]
  · isplitr; · iexact HR
    isplitl [HO]; · iexact HO
    iexact e4
  iintro ⟨HO, y4, gO01A⟩
  iapply (op_sendwait m K c 5 c 0 qB rfl rfl rfl rfl) $$ [HO e5]
  · isplitr; · iexact HR
    isplitl [HO]; · iexact HO
    iexact e5
  iintro ⟨HO, y5, gmy0B⟩
  iapply (op_sendwait m K c 6 c 1 qB rfl rfl rfl rfl) $$ [HO e6]
  · isplitr; · iexact HR
    isplitl [HO]; · iexact HO
    iexact e6
  iintro ⟨HO, y6, gmy1B⟩
  iapply (WP_ret c)
  iapply Hk
  isplitl [y2]; · iexact y2
  isplitl [gL10A]; · iexact gL10A
  isplitl [y3]; · iexact y3
  isplitl [gO00A]; · iexact gO00A
  isplitl [y4]; · iexact y4
  isplitl [gO01A]; · iexact gO01A
  isplitl [y5]; · iexact y5
  isplitl [gmy0B]; · iexact gmy0B
  isplitl [HO]; · iexact HO
  isplitl [y6]; · iexact y6
  iexact gmy1B

theorem part26 {Q : PUnit → sProp (MT nD τ sig Unit (Elt F) ℕ UU ℕ)} {h0 h1 h2 h3 h4 h5 h6 h7 h8} :
    iprop(records m K ∗ levAts L lv ∗ OW c (OwS c []) ∗ Sent c 7 ∗ Sent c 8 ∗ Sent c 9 ∗ Sent c 10)
      ⊢ iprop(((semVal (sendCell c 7) 0 ∗ Reg m c (cw c) 1 qA ∗ semVal (sendCell c 8) 0 ∗ Reg m c (zp c) 0 qB ∗ semVal (sendCell c 9) 0 ∗ Reg m c c 0 qC ∗ OW c (OwS c []) ∗ semVal (sendCell c 10) 0 ∗ Reg m c c 1 qC) -∗ Q ⟨⟩)
        -∗ WP c (k0_part26 (F := F) xM h0 wM h1 aM h2 bM h3 oM h4 gM h5 vM h6 wtM h7 otM h8 cc0_scratch4 cc0_scratch5 cc0_scratch6 cc0_scratch7 c) Q) := by
  rw [k0_part26_eq_skeleton]; unfold k0_part26_skel
  simp only [Prog.lift, Prog.bind_op, Prog.bind_ret, Prog.pure_eq_ret]
  iintro ⟨#HR, #Hlev, HO, e7, e8, e9, e10⟩ Hk
  iapply (op_sendwait m K c 7 (cw c) 1 qA rfl rfl rfl rfl) $$ [HO e7]
  · isplitr; · iexact HR
    isplitl [HO]; · iexact HO
    iexact e7
  iintro ⟨HO, y7, gR11A⟩
  iapply (op_sendwait m K c 8 (zp c) 0 qB rfl rfl rfl rfl) $$ [HO e8]
  · isplitr; · iexact HR
    isplitl [HO]; · iexact HO
    iexact e8
  iintro ⟨HO, y8, gO00B⟩
  iapply (op_sendwait m K c 9 c 0 qC rfl rfl rfl rfl) $$ [HO e9]
  · isplitr; · iexact HR
    isplitl [HO]; · iexact HO
    iexact e9
  iintro ⟨HO, y9, gmy0C⟩
  iapply (op_sendwait m K c 10 c 1 qC rfl rfl rfl rfl) $$ [HO e10]
  · isplitr; · iexact HR
    isplitl [HO]; · iexact HO
    iexact e10
  iintro ⟨HO, y10, gmy1C⟩
  iapply (WP_ret c)
  iapply Hk
  isplitl [y7]; · iexact y7
  isplitl [gR11A]; · iexact gR11A
  isplitl [y8]; · iexact y8
  isplitl [gO00B]; · iexact gO00B
  isplitl [y9]; · iexact y9
  isplitl [gmy0C]; · iexact gmy0C
  isplitl [HO]; · iexact HO
  isplitl [y10]; · iexact y10
  iexact gmy1C

end Parts

end Cert.GatherProof

end
-- ==== Proof.Body.lean ====
/-
  The body of a device, once: its parts one after the other, from what the device starts with to what it ends with.
-/
module

public import proofs.«01_k».proof.Proof.PartsB
public import proofs.«01_k».proof.Proof.PartsC

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × CI → ℕ) (c : Dev nD)

theorem part1 {Q} {h0 h1 h2 h3 h4 h5 h6 h7 h8} : iprop(∀ r, ⌜r.1 = c⌝ -∗ Q r) ⊢ WP (F := F) c (k0_part1 (F := F) xM h0 wM h1 aM h2 bM h3 oM h4 gM h5 vM h6 wtM h7 otM h8 cc0_scratch4 cc0_scratch5 cc0_scratch6 cc0_scratch7) Q := by
  rw [k0_part1_eq_skeleton]; unfold k0_part1_skel
  simp only [Prog.lift, Prog.bind_op, Prog.bind_ret, Prog.pure_eq_ret, wp_deviceId]
  iintro Hk
  iapply (WP_ret c)
  iapply Hk
  ipureintro; rfl

theorem part2 {Q} {h0 h1 h2 h3 h4 h5 h6 h7 h8} (v12 v13 v14 v29 v30 : BitVec 32) (v35 : BitVec 1) : iprop(∀ r, Q r) ⊢ WP (F := F) c (k0_part2 (F := F) xM h0 wM h1 aM h2 bM h3 oM h4 gM h5 vM h6 wtM h7 otM h8 cc0_scratch4 cc0_scratch5 cc0_scratch6 cc0_scratch7 v12 v13 v14 v29 v30 v35) Q := by
  rw [k0_part2_eq_skeleton]; unfold k0_part2_skel
  simp only [Prog.pure_eq_ret]
  iintro Hk
  iapply (WP_ret c)
  iapply Hk

theorem part3 {Q} {h0 h1 h2 h3 h4 h5 h6 h7 h8} (v12 v13 v14 v74 : BitVec 32) : iprop(∀ r, ⌜r.2.2.2.2.2 = SemArray.scalar (sig.barrier 0 rfl)⌝ -∗ Q r) ⊢ WP (F := F) c (k0_part3 (F := F) xM h0 wM h1 aM h2 bM h3 oM h4 gM h5 vM h6 wtM h7 otM h8 cc0_scratch4 cc0_scratch5 cc0_scratch6 cc0_scratch7 v12 v13 v14 v74) Q := by
  rw [k0_part3_eq_skeleton]; unfold k0_part3_skel
  simp only [Prog.pure_eq_ret]
  iintro Hk
  iapply (WP_ret c)
  iapply Hk
  ipureintro; rfl

/-- What device `c` starts the body with, the protocol's records and levels aside. -/
def Start : sProp 𝕄 :=
  iprop(OW c (O₀ c) ∗ dutyTok ER (barCell (bn 1 c)) 0 1 ∗ barPay (bn 1 c) 1 ∗ dutyTok ER (barCell (bn 0 c)) 0 0 ∗ barPay (bn 0 c) 0 ∗ dutyTok ER (barCell (bn 2 c)) 0 2 ∗ barPay (bn 2 c) 2 ∗ cred (tallyAt (barCell c) () 3) ∗ atPos ER (barCell c) 0 ∅ 0 ∗ SA m c ∗ SB m c ∗ XA m c ∗ RegAny c c 0 ∗ Snd c 0 ∗ Snd c 5 ∗ Snd c 9 ∗ RegAny c c 1 ∗ Snd c 1 ∗ Snd c 6 ∗ Snd c 10 ∗ WSq m c 0 ∗ WTany c 0 ∗ semVal (wdCell c 0) 0 ∗ WSq m c 1 ∗ WTany c 1 ∗ semVal (wdCell c 1) 0 ∗ V8any c 0 ∗ WSq m c 2 ∗ V8any c 1 ∗ WSq m c 3 ∗ V8any c 2 ∗ V8any c 3 ∗ OTany c 0 ∗ RSany c c ∗ semVal (odCell c 0) 0 ∗ Rcv c 0 ∗ Snd c 2 ∗ Rcv c 9 ∗ Snd c 3 ∗ Snd c 8 ∗ Rcv c 6 ∗ Snd c 7 ∗ Snd c 11 ∗ Rcv c 10 ∗ Snd c 4 ∗ OTany c 1 ∗ RSany c (zp c) ∗ semVal (odCell c 1) 0 ∗ Rcv c 2 ∗ Snd c 12 ∗ Rcv c 11 ∗ Snd c 13 ∗ Rcv c 7 ∗ RSany c (cw (cw c)) ∗ Rcv c 1 ∗ RSany c (ccw c) ∗ Rcv c 5 ∗ RSany c (cw c) ∗ Rcv c 8 ∗ RSany c (zp (cw c)) ∗ Rcv c 3 ∗ Rcv c 12 ∗ Rcv c 4 ∗ RSany c (zp (ccw c)) ∗ Rcv c 13 ∗ RSany c (zp (cw (cw c))))

/-- What it ends the body with. -/
def Finish : sProp 𝕄 :=
  iprop(semVal (barCell c) 0 ∗ SA m c ∗ SB m c ∗ XA m c ∗ WSq m c 0 ∗ WSq m c 1 ∗ semVal (wdCell c 0) 0 ∗ WSq m c 2 ∗ WTany c 0 ∗ semVal (wdCell c 1) 0 ∗ WSq m c 3 ∗ WTany c 1 ∗ Reg m c c 0 qL ∗ Reg m c c 1 qL ∗ semVal (recvCell c 0) 0 ∗ Reg m c (ccw c) 0 qB ∗ Reg m c (ccw c) 0 qC ∗ semVal (recvCell c 9) 0 ∗ Reg m c (zp c) 0 qC ∗ semVal (recvCell c 6) 0 ∗ Reg m c (cw c) 1 qC ∗ semVal (recvCell c 10) 0 ∗ Reg m c (zp c) 1 qB ∗ Reg m c (zp c) 1 qC ∗ Reg m c (zp c) 0 qL ∗ Reg m c (zp c) 1 qL ∗ semVal (recvCell c 2) 0 ∗ Reg m c (cw (cw c)) 0 qB ∗ Reg m c (cw (cw c)) 0 qC ∗ semVal (recvCell c 11) 0 ∗ Reg m c (zp (cw c)) 1 qB ∗ Reg m c (zp (cw c)) 1 qC ∗ semVal (recvCell c 7) 0 ∗ Reg m c (cw (cw c)) 1 qA ∗ Reg m c (cw (cw c)) 1 qB ∗ Reg m c (cw (cw c)) 1 qC ∗ Reg m c (cw (cw c)) 0 qL ∗ Reg m c (cw (cw c)) 1 qL ∗ RS m c c ∗ semVal (recvCell c 1) 0 ∗ Reg m c (ccw c) 1 qA ∗ Reg m c (ccw c) 1 qB ∗ Reg m c (ccw c) 1 qC ∗ Reg m c (ccw c) 0 qL ∗ Reg m c (ccw c) 1 qL ∗ RS m c (zp c) ∗ semVal (recvCell c 5) 0 ∗ Reg m c (cw c) 0 qA ∗ Reg m c (cw c) 0 qB ∗ Reg m c (cw c) 0 qC ∗ Reg m c (cw c) 0 qL ∗ Reg m c (cw c) 1 qL ∗ RS m c (cw (cw c)) ∗ semVal (recvCell c 8) 0 ∗ Reg m c (zp (cw c)) 0 qA ∗ Reg m c (zp (cw c)) 0 qB ∗ Reg m c (zp (cw c)) 0 qC ∗ Reg m c (zp (cw c)) 0 qL ∗ Reg m c (zp (cw c)) 1 qL ∗ RS m c (ccw c) ∗ semVal (recvCell c 3) 0 ∗ Reg m c (zp (ccw c)) 0 qA ∗ Reg m c (zp (ccw c)) 0 qB ∗ Reg m c (zp (ccw c)) 0 qC ∗ RS m c (cw c) ∗ Reg m c (zp (ccw c)) 0 qL ∗ semVal (recvCell c 12) 0 ∗ Reg m c (zp (cw (cw c))) 0 qA ∗ Reg m c (zp (cw (cw c))) 0 qB ∗ Reg m c (zp (cw (cw c))) 0 qC ∗ RS m c (zp (cw c)) ∗ Reg m c (zp (cw (cw c))) 0 qL ∗ semVal (recvCell c 4) 0 ∗ Reg m c (zp (ccw c)) 1 qA ∗ Reg m c (zp (ccw c)) 1 qB ∗ Reg m c (zp (ccw c)) 1 qC ∗ Reg m c (zp (ccw c)) 1 qL ∗ semVal (recvCell c 13) 0 ∗ Reg m c (zp (cw (cw c))) 1 qA ∗ Reg m c (zp (cw (cw c))) 1 qB ∗ Reg m c (zp (cw (cw c))) 1 qC ∗ Reg m c (zp (cw (cw c))) 1 qL ∗ V8all m c ∗ semVal (odCell c 0) 0 ∗ RS m c (zp (ccw c)) ∗ OTany c 0 ∗ semVal (odCell c 1) 0 ∗ RS m c (zp (cw (cw c))) ∗ OTany c 1 ∗ semVal (sendCell c 0) 0 ∗ Reg m c c 0 qA ∗ semVal (sendCell c 1) 0 ∗ Reg m c c 1 qA ∗ semVal (sendCell c 2) 0 ∗ Reg m c (ccw c) 0 qA ∗ semVal (sendCell c 3) 0 ∗ Reg m c (zp c) 0 qA ∗ semVal (sendCell c 4) 0 ∗ Reg m c (zp c) 1 qA ∗ semVal (sendCell c 5) 0 ∗ Reg m c c 0 qB ∗ semVal (sendCell c 6) 0 ∗ Reg m c c 1 qB ∗ semVal (sendCell c 7) 0 ∗ Reg m c (cw c) 1 qA ∗ semVal (sendCell c 8) 0 ∗ Reg m c (zp c) 0 qB ∗ semVal (sendCell c 9) 0 ∗ Reg m c c 0 qC ∗ semVal (sendCell c 10) 0 ∗ Reg m c c 1 qC ∗ semVal (sendCell c 11) 0 ∗ Reg m c (cw c) 1 qB ∗ semVal (sendCell c 12) 0 ∗ Reg m c (cw (cw c)) 0 qA ∗ OW c (OwS c []) ∗ semVal (sendCell c 13) 0 ∗ Reg m c (zp (cw c)) 1 qA)

set_option maxHeartbeats 4000000 in
theorem body {Q : PUnit → sProp (MT nD τ sig Unit (Elt F) ℕ UU ℕ)} {h0 h1 h2 h3 h4 h5 h6 h7 h8} : iprop(records m K ∗ levAts L lv ∗ Start m c)
      ⊢ iprop((Finish m c -∗ Q ⟨⟩) -∗ WP c (cc0_body (F := F) xM h0 wM h1 aM h2 bM h3 oM h4 gM h5 vM h6 wtM h7 otM h8 cc0_scratch4 cc0_scratch5 cc0_scratch6 cc0_scratch7) Q) := by
  unfold Start Finish
  rw [cc0_body_eq_skeleton]; unfold cc0_body_skel
  iintro ⟨#HR, #Hlev, HO, k1, p1, k0, p0, k2, p2, cb, ab, sa, sb, xa, my0, n0, n5, n9, my1, n1, n6, n10, w0, t0, wd0, w1, t1, wd1, v0, w2, v1, w3, v2, v3, o0, rsmy, od0, r0, n2, r9, n3, n8, r6, n7, n11, r10, n4, o1, rsO0, od1, r2, n12, r11, n13, r7, rsD, r1, rsL1, r5, rsR1, r8, rsOR, r3, r12, r4, rsOL, r13, rsOD⟩ Hk
  iapply (WP_bind c)
  rw [k0_part27_eq_skeleton]; unfold k0_part27_skel
  iapply (WP_bind c)
  iapply (part1 c)
  iintro %r %hr
  obtain ⟨d0, v2, v12, v13, v14, v26, v29, v30, v35⟩ := r
  obtain rfl : d0 = c := hr
  beta_reduce
  iapply (WP_bind d0)
  iapply (part2 d0)
  iintro %r
  obtain ⟨v38, v39, v51, v63, v74⟩ := r
  beta_reduce
  iapply (WP_bind d0)
  iapply (part3 d0)
  iintro %r %hr
  obtain ⟨v75, v76, v88, v100, v112, v113⟩ := r
  obtain rfl : v113 = SemArray.scalar (sig.barrier 0 rfl) := hr
  beta_reduce
  iapply (WP_bind d0)
  iapply (part4 m K d0 _ _ _ _) $$ [HO k1 p1 k0 p0 k2 p2 cb ab sa sb xa my0 n0]
  · isplitr; · iexact HR
    isplitr; · iexact Hlev
    isplitl [HO]; · iexact HO
    isplitl [k1]; · iexact k1
    isplitl [p1]; · iexact p1
    isplitl [k0]; · iexact k0
    isplitl [p0]; · iexact p0
    isplitl [k2]; · iexact k2
    isplitl [p2]; · iexact p2
    isplitl [cb]; · iexact cb
    isplitl [ab]; · iexact ab
    isplitl [sa]; · iexact sa
    isplitl [sb]; · iexact sb
    isplitl [xa]; · iexact xa
    isplitl [my0]; · iexact my0
    iexact n0
  iintro ⟨zb, b1, b2, b3, b4, b5, b6, b7, b8, b9, b10, b11, b12, b13, sa, sb, xa, gmy0B, gmy0C, gmy0L, HO, e0⟩
  beta_reduce
  iapply (WP_bind d0)
  iapply (part5 m K d0 _ _ _ _ _) $$ [HO gmy0B n5 b5 gmy0C n9 b9 xa my1]
  · isplitr; · iexact HR
    isplitr; · iexact Hlev
    isplitl [HO]; · iexact HO
    isplitl [gmy0B]; · iexact gmy0B
    isplitl [n5]; · iexact n5
    isplitl [b5]; · iexact b5
    isplitl [gmy0C]; · iexact gmy0C
    isplitl [n9]; · iexact n9
    isplitl [b9]; · iexact b9
    isplitl [xa]; · iexact xa
    iexact my1
  iintro ⟨e5, HO, e9, xa, gmy1A, gmy1B, gmy1C, gmy1L⟩
  beta_reduce
  iapply (WP_bind d0)
  iapply (part6 m K d0 _ _) $$ [HO gmy1A n1 b1 gmy1B n6 b6 gmy1C n10 b10 w0 t0 wd0]
  · isplitr; · iexact HR
    isplitr; · iexact Hlev
    isplitl [HO]; · iexact HO
    isplitl [gmy1A]; · iexact gmy1A
    isplitl [n1]; · iexact n1
    isplitl [b1]; · iexact b1
    isplitl [gmy1B]; · iexact gmy1B
    isplitl [n6]; · iexact n6
    isplitl [b6]; · iexact b6
    isplitl [gmy1C]; · iexact gmy1C
    isplitl [n10]; · iexact n10
    isplitl [b10]; · iexact b10
    isplitl [w0]; · iexact w0
    isplitl [t0]; · iexact t0
    iexact wd0
  iintro ⟨e1, e6, HO, e10, f0⟩
  beta_reduce
  iapply (WP_bind d0)
  iapply (part7 m K d0) $$ [w1 t1 wd1 HO f0 v0 w2]
  · isplitr; · iexact HR
    isplitr; · iexact Hlev
    isplitl [w1]; · iexact w1
    isplitl [t1]; · iexact t1
    isplitl [wd1]; · iexact wd1
    isplitl [HO]; · iexact HO
    isplitl [f0]; · iexact f0
    isplitl [v0]; · iexact v0
    iexact w2
  iintro ⟨w0, v0, f0, HO, wd1, w1, t1⟩
  beta_reduce
  iapply (WP_bind d0)
  iapply (part8 m K d0) $$ [v1 w3 t1 wd1 HO f0 v2]
  · isplitr; · iexact HR
    isplitr; · iexact Hlev
    isplitl [v1]; · iexact v1
    isplitl [w3]; · iexact w3
    isplitl [t1]; · iexact t1
    isplitl [wd1]; · iexact wd1
    isplitl [HO]; · iexact HO
    isplitl [f0]; · iexact f0
    iexact v2
  iintro ⟨v1, wd0, w2, t0, v2, HO, wd1, w3, t1⟩
  beta_reduce
  iapply (WP_bind d0)
  iapply (part9 m K d0 _ _) $$ [v3 v0 v1 v2 gmy0L gmy1L o0 rsmy od0]
  · isplitr; · iexact HR
    isplitr; · iexact Hlev
    isplitl [v3]; · iexact v3
    isplitl [v0]; · iexact v0
    isplitl [v1]; · iexact v1
    isplitl [v2]; · iexact v2
    isplitl [gmy0L]; · iexact gmy0L
    isplitl [gmy1L]; · iexact gmy1L
    isplitl [o0]; · iexact o0
    isplitl [rsmy]; · iexact rsmy
    iexact od0
  iintro ⟨gmy0L, gmy1L, vv, of0⟩
  beta_reduce
  iapply (WP_bind d0)
  iapply (part10 m K d0 _) $$ [HO r0 n2 b2 r9]
  · isplitr; · iexact HR
    isplitr; · iexact Hlev
    isplitl [HO]; · iexact HO
    isplitl [r0]; · iexact r0
    isplitl [n2]; · iexact n2
    isplitl [b2]; · iexact b2
    iexact r9
  iintro ⟨z0, gL10B, gL10C, gL10L, e2, HO, z9, gO00A, gO00B, gO00C, gO00L⟩
  beta_reduce
  iapply (WP_bind d0)
  iapply (part11 m K d0 _ _) $$ [HO gO00A n3 b3 gO00B n8 b8 r6]
  · isplitr; · iexact HR
    isplitr; · iexact Hlev
    isplitl [HO]; · iexact HO
    isplitl [gO00A]; · iexact gO00A
    isplitl [n3]; · iexact n3
    isplitl [b3]; · iexact b3
    isplitl [gO00B]; · iexact gO00B
    isplitl [n8]; · iexact n8
    isplitl [b8]; · iexact b8
    iexact r6
  iintro ⟨e3, e8, HO, z6, gR11A, gR11B, gR11C, gR11L⟩
  beta_reduce
  iapply (WP_bind d0)
  iapply (part12 m K d0 _ _ _) $$ [HO gR11A n7 b7 gR11B n11 b11 r10 n4 b4 gO00L]
  · isplitr; · iexact HR
    isplitr; · iexact Hlev
    isplitl [HO]; · iexact HO
    isplitl [gR11A]; · iexact gR11A
    isplitl [n7]; · iexact n7
    isplitl [b7]; · iexact b7
    isplitl [gR11B]; · iexact gR11B
    isplitl [n11]; · iexact n11
    isplitl [b11]; · iexact b11
    isplitl [r10]; · iexact r10
    isplitl [n4]; · iexact n4
    isplitl [b4]; · iexact b4
    iexact gO00L
  iintro ⟨e7, e11, z10, gO01B, gO01C, HO, e4, gO00L, gO01L⟩
  beta_reduce
  iapply (WP_bind d0)
  iapply (part13 m K d0 _ _) $$ [vv o1 rsO0 od1 HO r2]
  · isplitr; · iexact HR
    isplitr; · iexact Hlev
    isplitl [vv]; · iexact vv
    isplitl [o1]; · iexact o1
    isplitl [rsO0]; · iexact rsO0
    isplitl [od1]; · iexact od1
    isplitl [HO]; · iexact HO
    iexact r2
  iintro ⟨vv, of1, HO, z2, gD0A, gD0B, gD0C, gD0L⟩
  beta_reduce
  iapply (WP_bind d0)
  iapply (part14 m K d0 _ _ _) $$ [HO gD0A n12 b12 r11 n13 b13]
  · isplitr; · iexact HR
    isplitr; · iexact Hlev
    isplitl [HO]; · iexact HO
    isplitl [gD0A]; · iexact gD0A
    isplitl [n12]; · iexact n12
    isplitl [b12]; · iexact b12
    isplitl [r11]; · iexact r11
    isplitl [n13]; · iexact n13
    iexact b13
  iintro ⟨e12, z11, gOR1B, gOR1C, gOR1L, HO, e13⟩
  beta_reduce
  iapply (WP_bind d0)
  iapply (part15 m K d0 _) $$ [HO r7 gD0L vv of0]
  · isplitr; · iexact HR
    isplitr; · iexact Hlev
    isplitl [HO]; · iexact HO
    isplitl [r7]; · iexact r7
    isplitl [gD0L]; · iexact gD0L
    isplitl [vv]; · iexact vv
    iexact of0
  iintro ⟨z7, gD1A, gD1B, gD1C, gD0L, gD1L, vv, HO, od0, rsmy, o0⟩
  beta_reduce
  iapply (WP_bind d0)
  iapply (part16 m K d0 _ _) $$ [o0 rsD od0 HO r1 gL10L vv of1]
  · isplitr; · iexact HR
    isplitr; · iexact Hlev
    isplitl [o0]; · iexact o0
    isplitl [rsD]; · iexact rsD
    isplitl [od0]; · iexact od0
    isplitl [HO]; · iexact HO
    isplitl [r1]; · iexact r1
    isplitl [gL10L]; · iexact gL10L
    isplitl [vv]; · iexact vv
    iexact of1
  iintro ⟨of0, z1, gL11A, gL11B, gL11C, gL10L, gL11L, vv, HO, od1, rsO0, o1⟩
  beta_reduce
  iapply (WP_bind d0)
  iapply (part17 m K d0 _ _ _) $$ [o1 rsL1 od1 HO r5 gR11L vv]
  · isplitr; · iexact HR
    isplitr; · iexact Hlev
    isplitl [o1]; · iexact o1
    isplitl [rsL1]; · iexact rsL1
    isplitl [od1]; · iexact od1
    isplitl [HO]; · iexact HO
    isplitl [r5]; · iexact r5
    isplitl [gR11L]; · iexact gR11L
    iexact vv
  iintro ⟨of1, HO, z5, gR10A, gR10B, gR10C, gR10L, gR11L, vv⟩
  beta_reduce
  iapply (WP_bind d0)
  iapply (part18 m K d0 _ _ _) $$ [HO of0 rsR1 r8 gOR1L]
  · isplitr; · iexact HR
    isplitr; · iexact Hlev
    isplitl [HO]; · iexact HO
    isplitl [of0]; · iexact of0
    isplitl [rsR1]; · iexact rsR1
    isplitl [r8]; · iexact r8
    iexact gOR1L
  iintro ⟨rsD, of0, HO, z8, gOR0A, gOR0B, gOR0C, gOR0L, gOR1L⟩
  beta_reduce
  iapply (WP_bind d0)
  iapply (part19 m K d0 _ _) $$ [vv HO of1 rsOR]
  · isplitr; · iexact HR
    isplitr; · iexact Hlev
    isplitl [vv]; · iexact vv
    isplitl [HO]; · iexact HO
    isplitl [of1]; · iexact of1
    iexact rsOR
  iintro ⟨vv, HO, rsL1, of1⟩
  beta_reduce
  iapply (WP_bind d0)
  iapply (part20 m K d0 _ _) $$ [HO r3 of0 vv]
  · isplitr; · iexact HR
    isplitr; · iexact Hlev
    isplitl [HO]; · iexact HO
    isplitl [r3]; · iexact r3
    isplitl [of0]; · iexact of0
    iexact vv
  iintro ⟨z3, gOL0A, gOL0B, gOL0C, HO, od0, rsR1, o01, gOL0L, vv, o00⟩
  beta_reduce
  iapply (WP_bind d0)
  iapply (part21 m K d0 _ _) $$ [HO r12 of1 vv]
  · isplitr; · iexact HR
    isplitr; · iexact Hlev
    isplitl [HO]; · iexact HO
    isplitl [r12]; · iexact r12
    isplitl [of1]; · iexact of1
    iexact vv
  iintro ⟨z12, gOD0A, gOD0B, gOD0C, HO, od1, rsOR, o11, gOD0L, vv, o10⟩
  beta_reduce
  iapply (WP_bind d0)
  iapply (part22 m K d0 _ _) $$ [HO r4 vv o01 o00 rsOL od0]
  · isplitr; · iexact HR
    isplitr; · iexact Hlev
    isplitl [HO]; · iexact HO
    isplitl [r4]; · iexact r4
    isplitl [vv]; · iexact vv
    isplitl [o01]; · iexact o01
    isplitl [o00]; · iexact o00
    isplitl [rsOL]; · iexact rsOL
    iexact od0
  iintro ⟨HO, z4, gOL1A, gOL1B, gOL1C, gOL1L, vv, of0⟩ %r
  obtain ⟨w1, w2⟩ := r
  beta_reduce
  iapply (WP_bind d0)
  iapply (part23 m K d0 _ _ _) $$ [HO r13 vv o11 o10 rsOD od1]
  · isplitr; · iexact HR
    isplitr; · iexact Hlev
    isplitl [HO]; · iexact HO
    isplitl [r13]; · iexact r13
    isplitl [vv]; · iexact vv
    isplitl [o11]; · iexact o11
    isplitl [o10]; · iexact o10
    isplitl [rsOD]; · iexact rsOD
    iexact od1
  iintro ⟨HO, z13, gOD1A, gOD1B, gOD1C, gOD1L, vv, of1⟩
  beta_reduce
  iapply (WP_bind d0)
  iapply (part24 m K d0) $$ [HO of0 of1 e0 e1]
  · isplitr; · iexact HR
    isplitr; · iexact Hlev
    isplitl [HO]; · iexact HO
    isplitl [of0]; · iexact of0
    isplitl [of1]; · iexact of1
    isplitl [e0]; · iexact e0
    iexact e1
  iintro ⟨od0, rsOL, o0, od1, rsOD, o1, y0, gmy0A, HO, y1, gmy1A⟩
  beta_reduce
  iapply (WP_bind d0)
  iapply (part25 m K d0) $$ [HO e2 e3 e4 e5 e6]
  · isplitr; · iexact HR
    isplitr; · iexact Hlev
    isplitl [HO]; · iexact HO
    isplitl [e2]; · iexact e2
    isplitl [e3]; · iexact e3
    isplitl [e4]; · iexact e4
    isplitl [e5]; · iexact e5
    iexact e6
  iintro ⟨y2, gL10A, y3, gO00A, y4, gO01A, y5, gmy0B, HO, y6, gmy1B⟩
  beta_reduce
  iapply (WP_bind d0)
  iapply (part26 m K d0) $$ [HO e7 e8 e9 e10]
  · isplitr; · iexact HR
    isplitr; · iexact Hlev
    isplitl [HO]; · iexact HO
    isplitl [e7]; · iexact e7
    isplitl [e8]; · iexact e8
    isplitl [e9]; · iexact e9
    iexact e10
  iintro ⟨y7, gR11A, y8, gO00B, y9, gmy0C, HO, y10, gmy1C⟩
  beta_reduce
  simp only [Prog.lift, Prog.bind_op, Prog.bind_ret, Prog.pure_eq_ret]
  iapply (op_sendwait m K d0 11 (cw d0) 1 qB rfl rfl rfl rfl) $$ [HO e11]
  · isplitr; · iexact HR
    isplitl [HO]; · iexact HO
    iexact e11
  iintro ⟨HO, y11, gR11B⟩
  iapply (op_sendwait m K d0 12 (cw (cw d0)) 0 qA rfl rfl rfl rfl) $$ [HO e12]
  · isplitr; · iexact HR
    isplitl [HO]; · iexact HO
    iexact e12
  iintro ⟨HO, y12, gD0A⟩
  iapply (WP_ret d0)
  beta_reduce
  iapply (op_sendwait m K d0 13 (zp (cw d0)) 1 qA rfl rfl rfl rfl) $$ [HO e13]
  · isplitr; · iexact HR
    isplitl [HO]; · iexact HO
    iexact e13
  iintro ⟨HO, y13, gOR1A⟩
  iapply (WP_ret d0)
  iapply Hk
  isplitl [zb]; · iexact zb
  isplitl [sa]; · iexact sa
  isplitl [sb]; · iexact sb
  isplitl [xa]; · iexact xa
  isplitl [w0]; · iexact w0
  isplitl [w1]; · iexact w1
  isplitl [wd0]; · iexact wd0
  isplitl [w2]; · iexact w2
  isplitl [t0]; · iexact t0
  isplitl [wd1]; · iexact wd1
  isplitl [w3]; · iexact w3
  isplitl [t1]; · iexact t1
  isplitl [gmy0L]; · iexact gmy0L
  isplitl [gmy1L]; · iexact gmy1L
  isplitl [z0]; · iexact z0
  isplitl [gL10B]; · iexact gL10B
  isplitl [gL10C]; · iexact gL10C
  isplitl [z9]; · iexact z9
  isplitl [gO00C]; · iexact gO00C
  isplitl [z6]; · iexact z6
  isplitl [gR11C]; · iexact gR11C
  isplitl [z10]; · iexact z10
  isplitl [gO01B]; · iexact gO01B
  isplitl [gO01C]; · iexact gO01C
  isplitl [gO00L]; · iexact gO00L
  isplitl [gO01L]; · iexact gO01L
  isplitl [z2]; · iexact z2
  isplitl [gD0B]; · iexact gD0B
  isplitl [gD0C]; · iexact gD0C
  isplitl [z11]; · iexact z11
  isplitl [gOR1B]; · iexact gOR1B
  isplitl [gOR1C]; · iexact gOR1C
  isplitl [z7]; · iexact z7
  isplitl [gD1A]; · iexact gD1A
  isplitl [gD1B]; · iexact gD1B
  isplitl [gD1C]; · iexact gD1C
  isplitl [gD0L]; · iexact gD0L
  isplitl [gD1L]; · iexact gD1L
  isplitl [rsmy]; · iexact rsmy
  isplitl [z1]; · iexact z1
  isplitl [gL11A]; · iexact gL11A
  isplitl [gL11B]; · iexact gL11B
  isplitl [gL11C]; · iexact gL11C
  isplitl [gL10L]; · iexact gL10L
  isplitl [gL11L]; · iexact gL11L
  isplitl [rsO0]; · iexact rsO0
  isplitl [z5]; · iexact z5
  isplitl [gR10A]; · iexact gR10A
  isplitl [gR10B]; · iexact gR10B
  isplitl [gR10C]; · iexact gR10C
  isplitl [gR10L]; · iexact gR10L
  isplitl [gR11L]; · iexact gR11L
  isplitl [rsD]; · iexact rsD
  isplitl [z8]; · iexact z8
  isplitl [gOR0A]; · iexact gOR0A
  isplitl [gOR0B]; · iexact gOR0B
  isplitl [gOR0C]; · iexact gOR0C
  isplitl [gOR0L]; · iexact gOR0L
  isplitl [gOR1L]; · iexact gOR1L
  isplitl [rsL1]; · iexact rsL1
  isplitl [z3]; · iexact z3
  isplitl [gOL0A]; · iexact gOL0A
  isplitl [gOL0B]; · iexact gOL0B
  isplitl [gOL0C]; · iexact gOL0C
  isplitl [rsR1]; · iexact rsR1
  isplitl [gOL0L]; · iexact gOL0L
  isplitl [z12]; · iexact z12
  isplitl [gOD0A]; · iexact gOD0A
  isplitl [gOD0B]; · iexact gOD0B
  isplitl [gOD0C]; · iexact gOD0C
  isplitl [rsOR]; · iexact rsOR
  isplitl [gOD0L]; · iexact gOD0L
  isplitl [z4]; · iexact z4
  isplitl [gOL1A]; · iexact gOL1A
  isplitl [gOL1B]; · iexact gOL1B
  isplitl [gOL1C]; · iexact gOL1C
  isplitl [gOL1L]; · iexact gOL1L
  isplitl [z13]; · iexact z13
  isplitl [gOD1A]; · iexact gOD1A
  isplitl [gOD1B]; · iexact gOD1B
  isplitl [gOD1C]; · iexact gOD1C
  isplitl [gOD1L]; · iexact gOD1L
  isplitl [vv]; · iexact vv
  isplitl [od0]; · iexact od0
  isplitl [rsOL]; · iexact rsOL
  isplitl [o0]; · iexact o0
  isplitl [od1]; · iexact od1
  isplitl [rsOD]; · iexact rsOD
  isplitl [o1]; · iexact o1
  isplitl [y0]; · iexact y0
  isplitl [gmy0A]; · iexact gmy0A
  isplitl [y1]; · iexact y1
  isplitl [gmy1A]; · iexact gmy1A
  isplitl [y2]; · iexact y2
  isplitl [gL10A]; · iexact gL10A
  isplitl [y3]; · iexact y3
  isplitl [gO00A]; · iexact gO00A
  isplitl [y4]; · iexact y4
  isplitl [gO01A]; · iexact gO01A
  isplitl [y5]; · iexact y5
  isplitl [gmy0B]; · iexact gmy0B
  isplitl [y6]; · iexact y6
  isplitl [gmy1B]; · iexact gmy1B
  isplitl [y7]; · iexact y7
  isplitl [gR11A]; · iexact gR11A
  isplitl [y8]; · iexact y8
  isplitl [gO00B]; · iexact gO00B
  isplitl [y9]; · iexact y9
  isplitl [gmy0C]; · iexact gmy0C
  isplitl [y10]; · iexact y10
  isplitl [gmy1C]; · iexact gmy1C
  isplitl [y11]; · iexact y11
  isplitl [gR11B]; · iexact gR11B
  isplitl [y12]; · iexact y12
  isplitl [gD0A]; · iexact gD0A
  isplitl [HO]; · iexact HO
  isplitl [y13]; · iexact y13
  iexact gOR1A

end Body

end Cert.GatherProof

end
-- ==== Proof.Split.lean ====
/-
  From whole buffers to the pieces the body starts with, and back from the pieces it ends with to whole buffers.
-/
module

public import proofs.«01_k».proof.Proof.Body

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Whole
variable {ℓ : Loc nD τ sig} {T : Type} [Fintype T] [DecidableEq T] (K : T → Finset (Idx ℓ)) (hc : Finset.univ.biUnion K = Finset.univ)
  (hp : ∀ t ∈ (Finset.univ : Finset T), ∀ t' ∈ (Finset.univ : Finset T), t ≠ t' → Disjoint (K t) (K t'))
include hc hp

omit [FloatOps F] [DecidableEq T] in
/-- A whole buffer is its pieces at the same contents. -/
theorem whole_eq (f : Buf (Elt F) ℓ) : (ℓ ↦{fullShare} f : sProp 𝕄) = bigSep Finset.univ fun t => ℓ ↦[K t]{fullShare} f := by
  rw [← pointsTo_biUnion Finset.univ K hp, hc]
omit [FloatOps F] [DecidableEq T] in
theorem whole_split : (iprop(∃ f : Buf (Elt F) ℓ, ℓ ↦{fullShare} f) : sProp 𝕄) ⊢ bigSep Finset.univ fun t => iprop(∃ f : Buf (Elt F) ℓ, ℓ ↦[K t]{fullShare} f) := by
  have h (f : Buf (Elt F) ℓ) : (ℓ ↦{fullShare} f : sProp 𝕄) ⊢ bigSep Finset.univ fun t => iprop(∃ f : Buf (Elt F) ℓ, ℓ ↦[K t]{fullShare} f) := by
    rw [whole_eq K hc hp f]
    exact bigSep_mono fun t _ => show (ℓ ↦[K t]{fullShare} f : sProp 𝕄) ⊢ iprop(∃ f : Buf (Elt F) ℓ, ℓ ↦[K t]{fullShare} f) from by iintro H; iexists f; iexact H
  iintro ⟨%f, H⟩
  iapply (h f)
  iexact H
/-- Pieces at whatever contents are the whole buffer at some contents. -/
theorem whole_join (t₀ : T) : (bigSep Finset.univ fun t => iprop(∃ f : Buf (Elt F) ℓ, ℓ ↦[K t]{fullShare} f) : sProp 𝕄) ⊢ iprop(∃ f : Buf (Elt F) ℓ, ℓ ↦{fullShare} f) := by
  haveI : ∀ _ : T, Nonempty (Buf (Elt F) ℓ) := fun _ => ⟨fun _ => Classical.arbitrary _⟩
  iintro H
  ihave H := (BI.bigSep_exists_pi Finset.univ (fun (t : T) (f : Buf (Elt F) ℓ) => (ℓ ↦[K t]{fullShare} f : sProp 𝕄))) $$ H
  icases H with ⟨%fs, H⟩
  ihave H := (pointsTo_biUnion_join Finset.univ K fs (fs t₀) hp) $$ H
  icases H with ⟨%g, %_, H⟩
  rw [hc]
  iexists g; iexact H
end Whole

/-- The devices, seen from `c`. -/
abbrev slots (c : Dev nD) : List (Dev nD) := [c, cw c, cw (cw c), ccw c, zp c, zp (cw c), zp (cw (cw c)), zp (ccw c)]
theorem slots_univ : ∀ c : Dev nD, Finset.univ = (slots c).toFinset := by decide +kernel
theorem slots_nodup : ∀ c : Dev nD, (slots c).Nodup := by decide +kernel

omit [FloatOps F] in
theorem all_slots (c : Dev nD) (Φ : Dev nD → sProp 𝕄) : bigSep Finset.univ Φ = iprop(Φ c ∗ Φ (cw c) ∗ Φ (cw (cw c)) ∗ Φ (ccw c) ∗ Φ (zp c) ∗ Φ (zp (cw c)) ∗ Φ (zp (cw (cw c))) ∗ Φ (zp (ccw c))) :=
  bigSep_univ_eq_bigSepL (slots c) (slots_univ c) (slots_nodup c) Φ
omit [FloatOps F] in
theorem all_two (Φ : Fin 2 → sProp 𝕄) : bigSep Finset.univ Φ = iprop(Φ 0 ∗ Φ 1) := bigSep_univ_eq_bigSepL [0, 1] (by decide) (by decide) Φ
omit [FloatOps F] in
theorem all_three (Φ : Fin 3 → sProp 𝕄) : bigSep Finset.univ Φ = iprop(Φ 0 ∗ Φ 1 ∗ Φ 2) := bigSep_univ_eq_bigSepL [0, 1, 2] (by decide) (by decide) Φ
omit [FloatOps F] in
theorem all_four (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem all_fourteen (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
theorem all_sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

variable (c : Dev nD)

omit [FloatOps F] in
theorem reg_land (t : Fin 14) (k : Fin 16) (w : Fin 3) (hk : k.val = t.val) (hw : way t = w) :
    (RegAny c (reg c k).1 (reg c k).2 : sProp 𝕄) = Land (bn w c) t := by
  subst hw
  obtain ⟨k, hlt⟩ := k
  obtain rfl : k = t.val := hk
  have h : reg c ⟨t.val, hlt⟩ = (inSlot t c, half t) := dif_pos t.isLt
  rw [h]
  show RegAny c (inSlot t c) (half t) = RegAny (dst t (src t c)) (inSlot t c) (half t)
  rw [dst_src]
omit [FloatOps F] in
theorem reg_mine (h : Fin 2) (k : Fin 16) (hk : reg c k = (c, h)) : (RegAny c (reg c k).1 (reg c k).2 : sProp 𝕄) = RegAny c c h := by rw [hk]

omit [FloatOps F] in
/-- The gathered array at launch: the device's own two halves, and what it hands its neighbours with its signals. -/
theorem regions : (iprop(∃ f : Buf (Elt F) ((c : Thread nD τ).loc cc0_scratch0), ((c : Thread nD τ).loc cc0_scratch0) ↦{fullShare} f) : sProp 𝕄)
    ⊢ iprop(RegAny c c 0 ∗ RegAny c c 1 ∗ barPay (bn 0 c) 0 ∗ barPay (bn 1 c) 1 ∗ barPay (bn 2 c) 2) := by
  refine (whole_split (ℓ := (c : Thread nD τ).loc cc0_scratch0) (fun k : Fin 16 => hset (reg c k).1 (reg c k).2) (hset_cover c) (hset_pairwise c)).trans ?_
  show (bigSep Finset.univ fun k : Fin 16 => RegAny c (reg c k).1 (reg c k).2) ⊢ _
  rw [all_sixteen]
  unfold barPay
  rw [if_pos rfl, if_neg (by decide), if_pos rfl, if_neg (by decide), if_neg (by decide)]
  iintro ⟨g0, g1, g2, g3, g4, g5, g6, g7, g8, g9, g10, g11, g12, g13, g14, g15⟩
  ihave g0 := (Entails.of_eq (reg_land (F := F) c 0 0 0 rfl rfl)) $$ g0
  ihave g1 := (Entails.of_eq (reg_land (F := F) c 1 1 0 rfl rfl)) $$ g1
  ihave g2 := (Entails.of_eq (reg_land (F := F) c 2 2 0 rfl rfl)) $$ g2
  ihave g3 := (Entails.of_eq (reg_land (F := F) c 3 3 0 rfl rfl)) $$ g3
  ihave g4 := (Entails.of_eq (reg_land (F := F) c 4 4 0 rfl rfl)) $$ g4
  ihave g5 := (Entails.of_eq (reg_land (F := F) c 5 5 1 rfl rfl)) $$ g5
  ihave g6 := (Entails.of_eq (reg_land (F := F) c 6 6 1 rfl rfl)) $$ g6
  ihave g7 := (Entails.of_eq (reg_land (F := F) c 7 7 1 rfl rfl)) $$ g7
  ihave g8 := (Entails.of_eq (reg_land (F := F) c 8 8 1 rfl rfl)) $$ g8
  ihave g9 := (Entails.of_eq (reg_land (F := F) c 9 9 2 rfl rfl)) $$ g9
  ihave g10 := (Entails.of_eq (reg_land (F := F) c 10 10 2 rfl rfl)) $$ g10
  ihave g11 := (Entails.of_eq (reg_land (F := F) c 11 11 2 rfl rfl)) $$ g11
  ihave g12 := (Entails.of_eq (reg_land (F := F) c 12 12 2 rfl rfl)) $$ g12
  ihave g13 := (Entails.of_eq (reg_land (F := F) c 13 13 1 rfl rfl)) $$ g13
  ihave g14 := (Entails.of_eq (reg_mine (F := F) c 0 14 rfl)) $$ g14
  ihave g15 := (Entails.of_eq (reg_mine (F := F) c 1 15 rfl)) $$ g15
  isplitl [g14]; · iexact g14
  isplitl [g15]; · iexact g15
  isplitl [g0 g1 g2 g3 g4]
  · isplitl [g0]; · iexact g0
    isplitl [g1]; · iexact g1
    isplitl [g2]; · iexact g2
    isplitl [g3]; · iexact g3
    iexact g4
  isplitl [g5 g6 g7 g8 g13]
  · isplitl [g5]; · iexact g5
    isplitl [g6]; · iexact g6
    isplitl [g7]; · iexact g7
    isplitl [g8]; · iexact g8
    iexact g13
  isplitl [g9]; · iexact g9
  isplitl [g10]; · iexact g10
  isplitl [g11]; · iexact g11
  iexact g12

/-- What a device holds at launch, its buffers whole. -/
def Init : sProp 𝕄 :=
  iprop(OW c (O₀ c)
    ∗ (bigSep Finset.univ fun w : Fin 3 => dutyTok ER (barCell (bn w c)) 0 w)
    ∗ cred (tallyAt (barCell c) () 3)
    ∗ atPos ER (barCell c) 0 ∅ 0
    ∗ (bigSep Finset.univ fun t : Fin 14 => Snd c t)
    ∗ (bigSep Finset.univ fun t : Fin 14 => Rcv c t)
    ∗ SA m c
    ∗ SB m c
    ∗ XA m c
    ∗ (bigSep Finset.univ fun p : Fin 2 => semVal (wdCell c p) 0)
    ∗ (bigSep Finset.univ fun p : Fin 2 => semVal (odCell c p) 0)
    ∗ (((c : Thread nD τ).loc main_arg1) ↦{fullShare} ws m c)
    ∗ (∃ f : Buf (Elt F) ((c : Thread nD τ).loc main_v1), ((c : Thread nD τ).loc main_v1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

set_option maxHeartbeats 1000000 in
theorem start_of : Init m c ⊢ Start m c := by
  unfold Init Start
  iintro ⟨HO, tok, cb, ab, snd, rcv, sa, sb, xa, wd, od, a1, v1, s0, s1, s2, s3⟩
  ihave tok := (Entails.of_eq (all_three _)) $$ tok
  icases tok with ⟨k0, k1, k2⟩
  ihave snd := (Entails.of_eq (all_fourteen _)) $$ snd
  icases snd with ⟨n0, n1, n2, n3, n4, n5, n6, n7, n8, n9, n10, n11, n12, n13⟩
  ihave rcv := (Entails.of_eq (all_fourteen _)) $$ rcv
  icases rcv with ⟨r0, r1, r2, r3, r4, r5, r6, r7, r8, r9, r10, r11, r12, r13⟩
  ihave wd := (Entails.of_eq (all_two _)) $$ wd
  icases wd with ⟨wd0, wd1⟩
  ihave od := (Entails.of_eq (all_two _)) $$ od
  icases od with ⟨od0, od1⟩
  ihave a1 := (Entails.of_eq ((whole_eq qset qset_cover qset_pairwise _).trans (all_four _))) $$ a1
  icases a1 with ⟨w0, w1, w2, w3⟩
  ihave v1 := ((whole_split rset rset_cover rset_pairwise).trans (Entails.of_eq (all_slots c _))) $$ v1
  icases v1 with ⟨rs_d0, rs_d1, rs_d2, rs_d3, rs_d4, rs_d5, rs_d6, rs_d7⟩
  ihave s0 := (regions c) $$ s0
  icases s0 with ⟨my0, my1, p0, p1, p2⟩
  ihave s1 := ((whole_split qset qset_cover qset_pairwise).trans (Entails.of_eq (all_four _))) $$ s1
  icases s1 with ⟨v0, v1, v2, v3⟩
  ihave s2 := ((whole_split wset wset_cover wset_pairwise).trans (Entails.of_eq (all_two _))) $$ s2
  icases s2 with ⟨t0, t1⟩
  ihave s3 := ((whole_split oset oset_cover oset_pairwise).trans (Entails.of_eq (all_two _))) $$ s3
  icases s3 with ⟨o0, o1⟩
  isplitl [HO]; · iexact HO
  isplitl [k1]; · iexact k1
  isplitl [p1]; · iexact p1
  isplitl [k0]; · iexact k0
  isplitl [p0]; · iexact p0
  isplitl [k2]; · iexact k2
  isplitl [p2]; · iexact p2
  isplitl [cb]; · iexact cb
  isplitl [ab]; · iexact ab
  isplitl [sa]; · iexact sa
  isplitl [sb]; · iexact sb
  isplitl [xa]; · iexact xa
  isplitl [my0]; · iexact my0
  isplitl [n0]; · iexact n0
  isplitl [n5]; · iexact n5
  isplitl [n9]; · iexact n9
  isplitl [my1]; · iexact my1
  isplitl [n1]; · iexact n1
  isplitl [n6]; · iexact n6
  isplitl [n10]; · iexact n10
  isplitl [w0]; · unfold WSq; iexact w0
  isplitl [t0]; · unfold WTany; iexact t0
  isplitl [wd0]; · iexact wd0
  isplitl [w1]; · unfold WSq; iexact w1
  isplitl [t1]; · unfold WTany; iexact t1
  isplitl [wd1]; · iexact wd1
  isplitl [v0]; · unfold V8any; iexact v0
  isplitl [w2]; · unfold WSq; iexact w2
  isplitl [v1]; · unfold V8any; iexact v1
  isplitl [w3]; · unfold WSq; iexact w3
  isplitl [v2]; · unfold V8any; iexact v2
  isplitl [v3]; · unfold V8any; iexact v3
  isplitl [o0]; · unfold OTany; iexact o0
  isplitl [rs_d0]; · unfold RSany; iexact rs_d0
  isplitl [od0]; · iexact od0
  isplitl [r0]; · iexact r0
  isplitl [n2]; · iexact n2
  isplitl [r9]; · iexact r9
  isplitl [n3]; · iexact n3
  isplitl [n8]; · iexact n8
  isplitl [r6]; · iexact r6
  isplitl [n7]; · iexact n7
  isplitl [n11]; · iexact n11
  isplitl [r10]; · iexact r10
  isplitl [n4]; · iexact n4
  isplitl [o1]; · unfold OTany; iexact o1
  isplitl [rs_d4]; · unfold RSany; iexact rs_d4
  isplitl [od1]; · iexact od1
  isplitl [r2]; · iexact r2
  isplitl [n12]; · iexact n12
  isplitl [r11]; · iexact r11
  isplitl [n13]; · iexact n13
  isplitl [r7]; · iexact r7
  isplitl [rs_d2]; · unfold RSany; iexact rs_d2
  isplitl [r1]; · iexact r1
  isplitl [rs_d3]; · unfold RSany; iexact rs_d3
  isplitl [r5]; · iexact r5
  isplitl [rs_d1]; · unfold RSany; iexact rs_d1
  isplitl [r8]; · iexact r8
  isplitl [rs_d5]; · unfold RSany; iexact rs_d5
  isplitl [r3]; · iexact r3
  isplitl [r12]; · iexact r12
  isplitl [r4]; · iexact r4
  isplitl [rs_d7]; · unfold RSany; iexact rs_d7
  isplitl [r13]; · iexact r13
  unfold RSany; iexact rs_d6

/-- What it holds at the end, its buffers whole again and the result computed. -/
def Final : sProp 𝕄 :=
  iprop(semVal (barCell c) 0
    ∗ OW c 0
    ∗ (bigSep Finset.univ fun t : Fin 14 => semVal (sendCell c t) 0)
    ∗ (bigSep Finset.univ fun t : Fin 14 => semVal (recvCell c t) 0)
    ∗ (bigSep Finset.univ fun p : Fin 2 => semVal (wdCell c p) 0)
    ∗ (bigSep Finset.univ fun p : Fin 2 => semVal (odCell c p) 0)
    ∗ SA m c
    ∗ SB m c
    ∗ XA m c
    ∗ (((c : Thread nD τ).loc main_arg1) ↦{fullShare} ws m c)
    ∗ (((c : Thread nD τ).loc main_v1) ↦{fullShare} OUT m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem hset_all : (Finset.univ : Finset (Dev nD)).biUnion sset = Finset.univ := by
  ext i; simp only [Finset.mem_biUnion, Finset.mem_univ, true_and, iff_true]
  exact ⟨⟨(i 0).val, (i 0).isLt⟩, by rw [mem_sset]⟩
theorem sset_pairwise : ∀ k ∈ (Finset.univ : Finset (Dev nD)), ∀ k' ∈ (Finset.univ : Finset (Dev nD)), k ≠ k' → Disjoint (sset k) (sset k') := by
  intro k _ k' _ hne
  rw [Finset.disjoint_left]; intro i hi hi'
  rw [mem_sset] at hi hi'; exact hne (Fin.ext (by omega))

/-- The eight shares of a slot put together. -/
theorem slot_join (s : Dev nD) : iprop(Reg m c s 0 qA ∗ Reg m c s 0 qB ∗ Reg m c s 0 qC ∗ Reg m c s 0 qL ∗ Reg m c s 1 qA ∗ Reg m c s 1 qB ∗ Reg m c s 1 qC ∗ Reg m c s 1 qL)
    ⊢ (((c : Thread nD τ).loc cc0_scratch0) ↦[sset s]{fullShare} XF m : sProp 𝕄) := by
  iintro ⟨a0, b0, c0, l0, a1, b1, c1, l1⟩
  ihave h0 := (reg_four m c s 0).2 $$ [a0 b0 c0 l0]
  · isplitl [a0]; · iexact a0
    isplitl [b0]; · iexact b0
    isplitl [c0]; · iexact c0
    iexact l0
  ihave h1 := (reg_four m c s 1).2 $$ [a1 b1 c1 l1]
  · isplitl [a1]; · iexact a1
    isplitl [b1]; · iexact b1
    isplitl [c1]; · iexact c1
    iexact l1
  unfold Reg
  rw [← sset_eq s]
  iapply (pointsTo_union (hset_disjoint (s := s) (s' := s) (h := 0) (h' := 1) (fun e => absurd (congrArg Prod.snd e) (show ¬ (0 : Fin 2) = 1 by decide)))).2
  isplitl [h0] <;> iassumption

set_option maxHeartbeats 4000000 in
theorem final_of : Finish m c ⊢ Final m c := by
  unfold Finish Final
  iintro ⟨zb, sa, sb, xa, w0, w1, wd0, w2, t0, wd1, w3, t1, g_d0_0L, g_d0_1L, z0, g_d3_0B, g_d3_0C, z9, g_d4_0C, z6, g_d1_1C, z10, g_d4_1B, g_d4_1C, g_d4_0L, g_d4_1L, z2, g_d2_0B, g_d2_0C, z11, g_d5_1B, g_d5_1C, z7, g_d2_1A, g_d2_1B, g_d2_1C, g_d2_0L, g_d2_1L, rs_d0, z1, g_d3_1A, g_d3_1B, g_d3_1C, g_d3_0L, g_d3_1L, rs_d4, z5, g_d1_0A, g_d1_0B, g_d1_0C, g_d1_0L, g_d1_1L, rs_d2, z8, g_d5_0A, g_d5_0B, g_d5_0C, g_d5_0L, g_d5_1L, rs_d3, z3, g_d7_0A, g_d7_0B, g_d7_0C, rs_d1, g_d7_0L, z12, g_d6_0A, g_d6_0B, g_d6_0C, rs_d5, g_d6_0L, z4, g_d7_1A, g_d7_1B, g_d7_1C, g_d7_1L, z13, g_d6_1A, g_d6_1B, g_d6_1C, g_d6_1L, vv, od0, rs_d7, o0, od1, rs_d6, o1, y0, g_d0_0A, y1, g_d0_1A, y2, g_d3_0A, y3, g_d4_0A, y4, g_d4_1A, y5, g_d0_0B, y6, g_d0_1B, y7, g_d1_1A, y8, g_d4_0B, y9, g_d0_0C, y10, g_d0_1C, y11, g_d1_1B, y12, g_d2_0A, HO, y13, g_d5_1A⟩
  ihave g0 := (slot_join m c c) $$ [g_d0_0A g_d0_0B g_d0_0C g_d0_0L g_d0_1A g_d0_1B g_d0_1C g_d0_1L]
  · isplitl [g_d0_0A]; · iexact g_d0_0A
    isplitl [g_d0_0B]; · iexact g_d0_0B
    isplitl [g_d0_0C]; · iexact g_d0_0C
    isplitl [g_d0_0L]; · iexact g_d0_0L
    isplitl [g_d0_1A]; · iexact g_d0_1A
    isplitl [g_d0_1B]; · iexact g_d0_1B
    isplitl [g_d0_1C]; · iexact g_d0_1C
    iexact g_d0_1L
  ihave g1 := (slot_join m c (cw c)) $$ [g_d1_0A g_d1_0B g_d1_0C g_d1_0L g_d1_1A g_d1_1B g_d1_1C g_d1_1L]
  · isplitl [g_d1_0A]; · iexact g_d1_0A
    isplitl [g_d1_0B]; · iexact g_d1_0B
    isplitl [g_d1_0C]; · iexact g_d1_0C
    isplitl [g_d1_0L]; · iexact g_d1_0L
    isplitl [g_d1_1A]; · iexact g_d1_1A
    isplitl [g_d1_1B]; · iexact g_d1_1B
    isplitl [g_d1_1C]; · iexact g_d1_1C
    iexact g_d1_1L
  ihave g2 := (slot_join m c (cw (cw c))) $$ [g_d2_0A g_d2_0B g_d2_0C g_d2_0L g_d2_1A g_d2_1B g_d2_1C g_d2_1L]
  · isplitl [g_d2_0A]; · iexact g_d2_0A
    isplitl [g_d2_0B]; · iexact g_d2_0B
    isplitl [g_d2_0C]; · iexact g_d2_0C
    isplitl [g_d2_0L]; · iexact g_d2_0L
    isplitl [g_d2_1A]; · iexact g_d2_1A
    isplitl [g_d2_1B]; · iexact g_d2_1B
    isplitl [g_d2_1C]; · iexact g_d2_1C
    iexact g_d2_1L
  ihave g3 := (slot_join m c (ccw c)) $$ [g_d3_0A g_d3_0B g_d3_0C g_d3_0L g_d3_1A g_d3_1B g_d3_1C g_d3_1L]
  · isplitl [g_d3_0A]; · iexact g_d3_0A
    isplitl [g_d3_0B]; · iexact g_d3_0B
    isplitl [g_d3_0C]; · iexact g_d3_0C
    isplitl [g_d3_0L]; · iexact g_d3_0L
    isplitl [g_d3_1A]; · iexact g_d3_1A
    isplitl [g_d3_1B]; · iexact g_d3_1B
    isplitl [g_d3_1C]; · iexact g_d3_1C
    iexact g_d3_1L
  ihave g4 := (slot_join m c (zp c)) $$ [g_d4_0A g_d4_0B g_d4_0C g_d4_0L g_d4_1A g_d4_1B g_d4_1C g_d4_1L]
  · isplitl [g_d4_0A]; · iexact g_d4_0A
    isplitl [g_d4_0B]; · iexact g_d4_0B
    isplitl [g_d4_0C]; · iexact g_d4_0C
    isplitl [g_d4_0L]; · iexact g_d4_0L
    isplitl [g_d4_1A]; · iexact g_d4_1A
    isplitl [g_d4_1B]; · iexact g_d4_1B
    isplitl [g_d4_1C]; · iexact g_d4_1C
    iexact g_d4_1L
  ihave g5 := (slot_join m c (zp (cw c))) $$ [g_d5_0A g_d5_0B g_d5_0C g_d5_0L g_d5_1A g_d5_1B g_d5_1C g_d5_1L]
  · isplitl [g_d5_0A]; · iexact g_d5_0A
    isplitl [g_d5_0B]; · iexact g_d5_0B
    isplitl [g_d5_0C]; · iexact g_d5_0C
    isplitl [g_d5_0L]; · iexact g_d5_0L
    isplitl [g_d5_1A]; · iexact g_d5_1A
    isplitl [g_d5_1B]; · iexact g_d5_1B
    isplitl [g_d5_1C]; · iexact g_d5_1C
    iexact g_d5_1L
  ihave g6 := (slot_join m c (zp (cw (cw c)))) $$ [g_d6_0A g_d6_0B g_d6_0C g_d6_0L g_d6_1A g_d6_1B g_d6_1C g_d6_1L]
  · isplitl [g_d6_0A]; · iexact g_d6_0A
    isplitl [g_d6_0B]; · iexact g_d6_0B
    isplitl [g_d6_0C]; · iexact g_d6_0C
    isplitl [g_d6_0L]; · iexact g_d6_0L
    isplitl [g_d6_1A]; · iexact g_d6_1A
    isplitl [g_d6_1B]; · iexact g_d6_1B
    isplitl [g_d6_1C]; · iexact g_d6_1C
    iexact g_d6_1L
  ihave g7 := (slot_join m c (zp (ccw c))) $$ [g_d7_0A g_d7_0B g_d7_0C g_d7_0L g_d7_1A g_d7_1B g_d7_1C g_d7_1L]
  · isplitl [g_d7_0A]; · iexact g_d7_0A
    isplitl [g_d7_0B]; · iexact g_d7_0B
    isplitl [g_d7_0C]; · iexact g_d7_0C
    isplitl [g_d7_0L]; · iexact g_d7_0L
    isplitl [g_d7_1A]; · iexact g_d7_1A
    isplitl [g_d7_1B]; · iexact g_d7_1B
    isplitl [g_d7_1C]; · iexact g_d7_1C
    iexact g_d7_1L
  isplitl [zb]; · iexact zb
  isplitl [HO]; · iexact HO
  isplitl [y0 y1 y2 y3 y4 y5 y6 y7 y8 y9 y10 y11 y12 y13]
  · iapply (Entails.of_eq (all_fourteen _).symm)
    isplitl [y0]; · iexact y0
    isplitl [y1]; · iexact y1
    isplitl [y2]; · iexact y2
    isplitl [y3]; · iexact y3
    isplitl [y4]; · iexact y4
    isplitl [y5]; · iexact y5
    isplitl [y6]; · iexact y6
    isplitl [y7]; · iexact y7
    isplitl [y8]; · iexact y8
    isplitl [y9]; · iexact y9
    isplitl [y10]; · iexact y10
    isplitl [y11]; · iexact y11
    isplitl [y12]; · iexact y12
    iexact y13
  isplitl [z0 z1 z2 z3 z4 z5 z6 z7 z8 z9 z10 z11 z12 z13]
  · iapply (Entails.of_eq (all_fourteen _).symm)
    isplitl [z0]; · iexact z0
    isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    iexact z13
  isplitl [wd0 wd1]
  · iapply (Entails.of_eq (all_two _).symm)
    isplitl [wd0]; · iexact wd0
    iexact wd1
  isplitl [od0 od1]
  · iapply (Entails.of_eq (all_two _).symm)
    isplitl [od0]; · iexact od0
    iexact od1
  isplitl [sa]; · iexact sa
  isplitl [sb]; · iexact sb
  isplitl [xa]; · iexact xa
  isplitl [w0 w1 w2 w3]
  · iapply (Entails.of_eq ((whole_eq qset qset_cover qset_pairwise _).trans (all_four _)).symm)
    unfold WSq
    isplitl [w0]; · iexact w0
    isplitl [w1]; · iexact w1
    isplitl [w2]; · iexact w2
    iexact w3
  isplitl [rs_d0 rs_d1 rs_d2 rs_d3 rs_d4 rs_d5 rs_d6 rs_d7]
  · iapply (Entails.of_eq ((whole_eq rset rset_cover rset_pairwise _).trans (all_slots c _)).symm)
    unfold RS
    isplitl [rs_d0]; · iexact rs_d0
    isplitl [rs_d1]; · iexact rs_d1
    isplitl [rs_d2]; · iexact rs_d2
    isplitl [rs_d3]; · iexact rs_d3
    isplitl [rs_d4]; · iexact rs_d4
    isplitl [rs_d5]; · iexact rs_d5
    isplitl [rs_d6]; · iexact rs_d6
    iexact rs_d7
  isplitl [g0 g1 g2 g3 g4 g5 g6 g7]
  · iexists (XF m)
    iapply (Entails.of_eq ((whole_eq sset hset_all sset_pairwise _).trans (all_slots c _)).symm)
    isplitl [g0]; · iexact g0
    isplitl [g1]; · iexact g1
    isplitl [g2]; · iexact g2
    isplitl [g3]; · iexact g3
    isplitl [g4]; · iexact g4
    isplitl [g5]; · iexact g5
    isplitl [g6]; · iexact g6
    iexact g7
  isplitl [vv]
  · unfold V8all; iexists (W8 m c); iexact vv
  isplitl [t0 t1]
  · iapply (whole_join wset wset_cover wset_pairwise 0)
    iapply (Entails.of_eq (all_two _).symm)
    unfold WTany
    isplitl [t0]; · iexact t0
    iexact t1
  iapply (whole_join oset oset_cover oset_pairwise 0)
  iapply (Entails.of_eq (all_two _).symm)
  unfold OTany
  isplitl [o0]; · iexact o0
  iexact o1

end Cert.GatherProof

end
-- ==== Proof.Run.lean ====
/-
  The body obligation, the launch on all devices, and the run: from any memory with zero counters every execution ends, with the
  result computed, the arguments unchanged and every counter at zero.
-/
module

public import proofs.«01_k».proof.Proof.Split
public import Idealize.ShloMosaic.Lib.Pipeline.CollectiveSegs

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## What a device holds between the launch and the body, and after it -/

/-- The protocol's part: positions and the tokens of the duties the device pays. -/
def Linear (c : Dev nD) : sProp 𝕄 :=
  iprop((bigSep Finset.univ fun w : Fin 3 => dutyTok ER (barCell (bn w c)) 0 w)
    ∗ atPos ER (barCell c) 0 ∅ 0
    ∗ (bigSep Finset.univ fun t : Fin 14 => Snd c t)
    ∗ (bigSep Finset.univ fun t : Fin 14 => atPos ER (recvCell c t) 0 ∅ 0))
/-- The counters of the copies inside the device. -/
def Inner (c : Dev nD) : sProp 𝕄 :=
  iprop((bigSep Finset.univ fun p : Fin 2 => semVal (wdCell c p) 0) ∗ (bigSep Finset.univ fun p : Fin 2 => semVal (odCell c p) 0))
/-- The credit a device starts with: what the others owe it. -/
def Creds (c : Dev nD) : sProp 𝕄 :=
  iprop(cred (tallyAt (barCell c) () 3) ∗ (bigSep Finset.univ fun t : Fin 14 => cred (tallyAt (recvCell c t) () N)))
/-- The weights and the result array. -/
def Wts (c : Dev nD) : sProp 𝕄 := ((c : Thread nD τ).loc main_arg1) ↦{fullShare} ws m c
def Res (c : Dev nD) : sProp 𝕄 := ((c : Thread nD τ).loc main_v1) ↦{fullShare} OUT m c
def ResAny (c : Dev nD) : sProp 𝕄 := iprop(∃ f : Buf (Elt F) ((c : Thread nD τ).loc main_v1), ((c : Thread nD τ).loc main_v1) ↦{fullShare} f)
/-- The four scratch buffers. -/
def Scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- What the global step makes for a device. -/
def Ghost (c : Dev nD) : sProp 𝕄 := iprop(∃ K : Dev nD × CI → ℕ, records m K ∗ Linear c ∗ Inner c)
def start (c : Dev nD) : sProp 𝕄 := iprop(Ghost m c ∗ levAts L lv ∗ Creds c ∗ Wts m c ∗ ResAny c)
def Φ₀ (c : Dev nD) : sProp 𝕄 := iprop(start m c ∗ Scratch c)
def Φ₁ (c : Dev nD) : sProp 𝕄 :=
  iprop(semVal (barCell c) 0 ∗ (bigSep Finset.univ fun t : Fin 14 => semVal (sendCell c t) 0) ∗ (bigSep Finset.univ fun t : Fin 14 => semVal (recvCell c t) 0)
    ∗ Inner c ∗ Wts m c ∗ Res m c ∗ Scratch c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => sx m c
    | ⟨2, _⟩ => sw m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def BodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def BodyPost (c : Dev nD) : sProp 𝕄 :=
  iprop(Φ₁ m c ∗ (dats m 0 c).owesAt () t0_0.succ ∗ stg c cc0_stg0_0 (xs m c) ∗ stg c cc0_stg1_0 (sx m c) ∗ stg c cc0_stg2_0 (sw m c))

theorem stage_x (c : Dev nD) : (iprop(∃ d, stg c cc0_stg0_0 ((dats m 0 c).before (0 : Fin 3) t0_0 d)) : sProp 𝕄) ⊢ XA m c := by
  iintro ⟨%d, %f, %h, H⟩
  have h' : f = xs m c := by rw [h]; unfold Dat.before; rw [if_pos (fetch0_0 t0_0)]; rfl
  subst h'
  unfold XA; iexact H
theorem stage_a (c : Dev nD) : (iprop(∃ d, stg c cc0_stg1_0 ((dats m 0 c).before (1 : Fin 3) t0_0 d)) : sProp 𝕄) ⊢ SA m c := by
  iintro ⟨%d, %f, %h, H⟩
  have h' : f = sx m c := by rw [h]; unfold Dat.before; rw [if_pos (fetch0_1 t0_0)]; rfl
  subst h'
  unfold SA; iexact H
theorem stage_b (c : Dev nD) : (iprop(∃ d, stg c cc0_stg2_0 ((dats m 0 c).before (2 : Fin 3) t0_0 d)) : sProp 𝕄) ⊢ SB m c := by
  iintro ⟨%d, %f, %h, H⟩
  have h' : f = sw m c := by rw [h]; unfold Dat.before; rw [if_pos (fetch0_2 t0_0)]; rfl
  subst h'
  unfold SB; iexact H

/-- From what the region hands the body to the pieces the body starts with. -/
theorem pre_init (c : Dev nD) : BodyPre m c ⊢ iprop(∃ K : Dev nD × CI → ℕ, records m K ∗ levAts L lv ∗ Start m c) := by
  unfold BodyPre Φ₀ start Ghost Linear Inner Creds Wts ResAny Scratch Dat.owesAt Pipeline.owesWithin
  rw [show (dats m 0 c).owed t0_0.castSucc = O₀ c from rfl]
  iintro ⟨⟨⟨⟨%K, HR, ⟨tok, ab, snd, rat⟩, wd, od⟩, Hlev, ⟨cb, rcr⟩, a1, v1⟩, s0, s1, s2, s3⟩, ⟨%W, %hW, HO⟩, x, a, b⟩
  iexists K
  isplitl [HR]; · iexact HR
  isplitl [Hlev]; · iexact Hlev
  iapply (start_of m c)
  unfold Init
  isplitl [HO]; · unfold OW; iexists W; iexact HO
  isplitl [tok]; · iexact tok
  isplitl [cb]; · iexact cb
  isplitl [ab]; · iexact ab
  isplitl [snd]; · iexact snd
  isplitl [rat rcr]
  · unfold Rcv
    iapply (Entails.of_eq (bigSep_sep' Finset.univ (fun t : Fin 14 => (cred (tallyAt (recvCell c t) () N) : sProp 𝕄)) (fun t : Fin 14 => atPos ER (recvCell c t) 0 ∅ 0)).symm)
    isplitl [rcr] <;> iassumption
  isplitl [a]; · iapply (stage_a m c); iexact a
  isplitl [b]; · iapply (stage_b m c); iexact b
  isplitl [x]; · iapply (stage_x m c); iexact x
  isplitl [wd]; · iexact wd
  isplitl [od]; · iexact od
  isplitl [a1]; · iexact a1
  isplitl [v1]; · iexact v1
  isplitl [s0]; · iexact s0
  isplitl [s1]; · iexact s1
  isplitl [s2]; · iexact s2
  iexact s3

theorem final_post (c : Dev nD) : Final m c ⊢ BodyPost m c := by
  unfold BodyPost Φ₁ Inner Wts Res Scratch Dat.owesAt Pipeline.owesWithin Final OW XA SA SB
  rw [show (dats m 0 c).owed t0_0.succ = 0 from rfl]
  iintro ⟨zb, ⟨%W, HO⟩, snd, rcv, wd, od, sa, sb, xa, a1, v1, s0, s1, s2, s3⟩
  isplitl [zb snd rcv wd od a1 v1 s0 s1 s2 s3]
  · isplitl [zb]; · iexact zb
    isplitl [snd]; · iexact snd
    isplitl [rcv]; · iexact rcv
    isplitl [wd od]
    · isplitl [wd]; · iexact wd
      iexact od
    isplitl [a1]; · iexact a1
    isplitl [v1]; · iexact v1
    isplitl [s0]; · iexact s0
    isplitl [s1]; · iexact s1
    isplitl [s2]; · iexact s2
    iexact s3
  isplitl [HO]
  · iexists W
    isplitr; · ipureintro; exact fun _ _ => Or.inl trivial
    iexact HO
  isplitl [xa]
  · iexists (xs m c); isplitr; · (ipureintro; rfl)
    iexact xa
  isplitl [sa]
  · iexists (sx m c); isplitr; · (ipureintro; rfl)
    iexact sa
  iexists (sw m c); isplitr; · (ipureintro; rfl)
  iexact sb

/-- What the region calls is the body on the windows' staging buffers, the two arrays in memory, the scratch buffers and the counters. -/
theorem call_eq : defs₀ (F := F) .tc 0 (t0_0, cfg0.slots t0_0)
    = cc0_body (F := F) xM (Memref.isWhole_whole _) wM (Memref.isWhole_whole _) aM (Memref.isWhole_whole _) bM (Memref.isWhole_whole _)
        oM (Memref.isWhole_whole _) gM (Memref.isWhole_whole _) vM (Memref.isWhole_whole _) wtM (Memref.isWhole_whole _) otM (Memref.isWhole_whole _)
        cc0_scratch4 cc0_scratch5 cc0_scratch6 cc0_scratch7 := by
  with_unfolding_all rfl

theorem body_runs (c : Dev nD) : BodyPre m c ⊢ WP c (defs₀ (F := F) .tc 0 (t0_0, cfg0.slots t0_0)) (fun _ => BodyPost m c) := by
  rw [call_eq]
  iintro H
  ihave H := (pre_init m c) $$ H
  icases H with ⟨%K, HR, Hlev, HS⟩
  iapply (body m K c (Q := fun _ => BodyPost m c)) $$ [HR Hlev HS]
  · isplitl [HR]; · iexact HR
    isplitl [Hlev]; · iexact Hlev
    iexact HS
  iintro H
  iapply (final_post m c)
  iapply (final_of m c)
  iexact H

/-- The body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_stage]
  have h1 : (dats m 0 c).Φ t0_0.castSucc = Φ₀ m c := rfl
  have h2 : (dats m 0 c).Φ t0_0.succ = Φ₁ m c := rfl
  have h3 : (dats m 0 c).after 0 t0_0 = xs m c := rfl
  have h4 : (dats m 0 c).after 1 t0_0 = sx m c := rfl
  have h5 : (dats m 0 c).after 2 t0_0 = sw m c := rfl
  rw [h1, h2, h3, h4, h5]
  have h := body_runs m c
  unfold BodyPre BodyPost at h
  refine h.trans (Entails.of_eq ?_)
  unfold WP
  congr 1

/-! ## The ghost state at launch -/

/-- The kernel's own semaphores: those of the copies inside the device, the send cells and the receive cells. -/
abbrev OwnIx : Type := (Fin 2 ⊕ Fin 2) ⊕ (Bool × Fin 14)
abbrev osem : OwnIx → SemLoc sig
  | .inl (.inl p) => .dma (wdS p)
  | .inl (.inr p) => .dma (odS p)
  | .inr q => csem (some q)
theorem ownSemFacts : Pipeline.OwnSemFacts cfg0.spec osem := by decide +kernel

theorem csem_injective : Function.Injective csem := fun a b h => Option.some.inj (by rw [← ci_csem a, ← ci_csem b, h])
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨kcell, kcell_injective⟩

/-- The duties of a device's own cells: three of its barrier's, one of each other cell. -/
abbrev DutyIx : Type := Fin 3 ⊕ (Bool × Fin 14)
abbrev dutyCell : DutyIx → CI
  | .inl _ => none
  | .inr q => some q
abbrev dutyName : DutyIx → Fin 3
  | .inl w => w
  | .inr _ => 0
abbrev tokOf (p : Dev nD × DutyIx) : GSem nD τ sig × ℕ × Fin 3 := (kcell (p.1, dutyCell p.2), 0, dutyName p.2)
theorem tokOf_injective : Function.Injective tokOf := by
  rintro ⟨c, j⟩ ⟨c', j'⟩ h
  have h1 := kcell_injective (congrArg Prod.fst h)
  have h2 : dutyName j = dutyName j' := congrArg (fun x : GSem nD τ sig × ℕ × Fin 3 => x.2.2) h
  have h3 : c = c' := congrArg Prod.fst h1
  have h4 : dutyCell j = dutyCell j' := congrArg Prod.snd h1
  subst h3
  rcases j with w | q <;> rcases j' with w' | q'
  · exact congrArg (fun w => (c, Sum.inl w)) h2
  · exact absurd h4 (by simp [dutyCell])
  · exact absurd h4 (by simp [dutyCell])
  · exact congrArg (fun q => (c, Sum.inr q)) (Option.some.inj h4)
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

/-- The tokens of the duties of a device's own cells. -/
def OwnToks (c : Dev nD) : sProp 𝕄 := bigSep Finset.univ fun j : DutyIx => dutyTok ER (kcell (c, dutyCell j)) 0 (dutyName j)
/-- What the launch deals a device. -/
def Dealt (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ OwnToks c)

theorem fund : BI.own (ER (initOf allCells allToks)) ⊢ (|==> bigSep Finset.univ (Dealt m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => OwnToks c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Dealt; simp only [bigSep_sep']
  isplitl [Hst]; · iexact Hst
  isplitl [Hat Hr]
  · isplitl [Hat] <;> iassumption
  iexact Htok

omit [FloatOps F] in
theorem all_option {A : Type} [Fintype A] (Φ : Option A → sProp 𝕄) : bigSep Finset.univ Φ = iprop(Φ none ∗ bigSep Finset.univ fun a => Φ (some a)) := by
  rw [bigSep_univ_equiv (Equiv.optionEquivSumPUnit.{0} A).symm Φ, bigSep_univ_sum]
  rw [bigSep_univ_of_subsingleton PUnit.unit]
  show iprop((bigSep Finset.univ fun a => Φ (some a)) ∗ Φ none) = _
  exact Entails.antisymm (show iprop((bigSep Finset.univ fun a => Φ (some a)) ∗ Φ none) ⊢ iprop(Φ none ∗ bigSep Finset.univ fun a => Φ (some a)) from by
      iintro ⟨H, H0⟩; isplitl [H0] <;> iassumption)
    (show iprop(Φ none ∗ bigSep Finset.univ fun a => Φ (some a)) ⊢ iprop((bigSep Finset.univ fun a => Φ (some a)) ∗ Φ none) from by
      iintro ⟨H0, H⟩; isplitl [H] <;> iassumption)
omit [FloatOps F] in
theorem all_ends (Φ : Bool × Fin 14 → sProp 𝕄) : bigSep Finset.univ Φ
    = iprop((bigSep Finset.univ fun t : Fin 14 => Φ (false, t)) ∗ (bigSep Finset.univ fun t : Fin 14 => Φ (true, t))) := by
  rw [bigSep_univ_prod]
  exact bigSep_univ_eq_bigSepL [false, true] (by decide) (by decide) _
omit [FloatOps F] in
theorem all_cells (Φ : CI → sProp 𝕄) : bigSep Finset.univ Φ
    = iprop(Φ none ∗ (bigSep Finset.univ fun t : Fin 14 => Φ (some (false, t))) ∗ (bigSep Finset.univ fun t : Fin 14 => Φ (some (true, t)))) := by
  rw [all_option, all_ends]

omit [FloatOps F] in
theorem ownSems0_eq (c : Dev nD) : (Pipeline.ownSems0 (Ix := Unit) (Name := ℕ) (U := UU) (Lvl := ℕ) (Val := Elt F) (τ := τ) osem c : sProp 𝕄)
    = iprop(Inner c ∗ (bigSep Finset.univ fun t : Fin 14 => semVal (sendCell c t) 0) ∗ (bigSep Finset.univ fun t : Fin 14 => semVal (recvCell c t) 0)) := by
  unfold Pipeline.ownSems0 Inner
  rw [bigSep_univ_sum, bigSep_univ_sum, all_ends]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop(Inner c ∗ (bigSep Finset.univ fun i : CI => semVal (kcell (c, i)) 0 : sProp 𝕄)) := by
  rw [ownSems0_eq, unscopedSems0_eq, all_cells]
  iintro ⟨⟨Hi, HS, HV⟩, HB⟩
  isplitl [Hi]; · iexact Hi
  isplitl [HB]; · iexact HB
  isplitl [HS]; · iexact HS
  iexact HV

/-- A device's cells opened: their invariants allocated. -/
theorem core_alloc (c : Dev nD) :
    iprop(Pipeline.ownSems0 (Ix := Unit) (Name := ℕ) (U := UU) (Lvl := ℕ) (Val := Elt F) (τ := τ) osem c ∗ unscopedSems0 c ∗ Dealt m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ OwnToks c ∗ Inner c) := by
  unfold Dealt
  iintro ⟨Hos, Hus, Hst, Hat, Htok⟩
  ihave Hv := (sems0_eq (F := F) c) $$ [Hos Hus]
  · isplitl [Hos] <;> iassumption
  icases Hv with ⟨Hi, Hv⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The neighbour in a direction, as a permutation of the devices. -/
def turn (w : Fin 3) : Dev nD ≃ Dev nD := ⟨nb w, bn w, bn_nb w, nb_bn w⟩

/-- The tokens dealt to the devices that pay: a barrier's to the neighbours, a receive cell's to the sender. -/
def PayToks (c : Dev nD) : sProp 𝕄 :=
  iprop((bigSep Finset.univ fun w : Fin 3 => dutyTok ER (barCell (bn w c)) 0 w)
    ∗ (bigSep Finset.univ fun t : Fin 14 => dutyTok ER (sendCell c t) 0 0) ∗ (bigSep Finset.univ fun t : Fin 14 => dutyTok ER (recvCell (dst t c) t) 0 0))
omit [FloatOps F] in
theorem toks_dealt : (bigSep Finset.univ fun c : Dev nD => (OwnToks c : sProp 𝕄)) ⊢ bigSep Finset.univ fun c : Dev nD => PayToks c := by
  have h (c : Dev nD) : (OwnToks c : sProp 𝕄) = iprop((bigSep Finset.univ fun w : Fin 3 => dutyTok ER (barCell c) 0 w)
      ∗ (bigSep Finset.univ fun t : Fin 14 => dutyTok ER (sendCell c t) 0 0) ∗ (bigSep Finset.univ fun t : Fin 14 => dutyTok ER (recvCell c t) 0 0)) := by
    unfold OwnToks; rw [bigSep_univ_sum, all_ends]; rfl
  rw [bigSep_congr fun c _ => h c]
  unfold PayToks
  rw [bigSep_sep', bigSep_sep', bigSep_sep', bigSep_sep',
    bigSep_univ_comm (fun (c : Dev nD) (w : Fin 3) => (dutyTok ER (barCell c) 0 w : sProp 𝕄)),
    bigSep_univ_comm (fun (c : Dev nD) (w : Fin 3) => (dutyTok ER (barCell (bn w c)) 0 w : sProp 𝕄)),
    bigSep_univ_comm (fun (c : Dev nD) (t : Fin 14) => (dutyTok ER (recvCell c t) 0 0 : sProp 𝕄)),
    bigSep_univ_comm (fun (c : Dev nD) (t : Fin 14) => (dutyTok ER (recvCell (dst t c) t) 0 0 : sProp 𝕄)),
    bigSep_congr (s := (Finset.univ : Finset (Fin 3))) fun w _ => bigSep_univ_equiv (turn w).symm (fun c : Dev nD => (dutyTok ER (barCell c) 0 w : sProp 𝕄)),
    bigSep_congr (s := (Finset.univ : Finset (Fin 14))) fun t _ => bigSep_univ_equiv (turn (way t)) (fun c : Dev nD => (dutyTok ER (recvCell c t) 0 0 : sProp 𝕄))]
  exact BI.Entails.refl _

omit [FloatOps F] in
theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) : iprop((bigSep Finset.univ fun i : CI => atPos ER (kcell (c, i)) 0 ∅ 0) ∗ PayToks c) ⊢ (Linear c : sProp 𝕄) := by
  unfold Linear PayToks Snd
  rw [all_cells, bigSep_sep', bigSep_sep']
  iintro ⟨⟨ab, asn, arc⟩, tb, ts, tr⟩
  isplitl [tb]; · iexact tb
  isplitl [ab]; · iexact ab
  isplitl [ts tr asn]
  · isplitl [ts]; · iexact ts
    isplitl [tr]; · iexact tr
    iexact asn
  iexact arc

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ OwnToks c ∗ Inner c) : sProp 𝕄)
      ⊢ bigSep Finset.univ (Ghost m) := by
  rw [bigSep_sep', bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok, Hin⟩
  ihave HK := (BI.bigSep_exists_pi Finset.univ (fun (p : Dev nD × CI) (κ : ℕ) => (cellInv ER (Rd m) κ (kcell p) : sProp 𝕄))) $$ HI
  icases HK with ⟨%K, #HI⟩
  ihave Htk := (toks_dealt (F := F)) $$ Htok
  iapply (with_persistent (R := records m K) (Φ := fun c : Dev nD => iprop(((bigSep Finset.univ fun i : CI => atPos ER (kcell (c, i)) 0 ∅ 0) ∗ PayToks c) ∗ Inner c))
    fun c _ => show _ ⊢ Ghost m c from by
      unfold Ghost
      iintro ⟨HR, HL, Hin⟩
      iexists K
      isplitl [HR]; · iexact HR
      isplitl [HL]; · iapply (linear_intro (F := F) c); iexact HL
      iexact Hin)
  isplitr
  · unfold records; isplitl; · iexact HI
    iexact HR
  · rw [bigSep_sep', bigSep_sep']
    isplitl [Hat Htk]
    · isplitl [Hat]; · iexact Hat
      iexact Htk
    iexact Hin

/-- The global step: every cell of every device opened at once. -/
theorem glob : (bigSep Finset.univ fun c => iprop(Pipeline.ownSems0 (Ix := Unit) (Name := ℕ) (U := UU) (Lvl := ℕ) (Val := Elt F) (τ := τ) osem c ∗ unscopedSems0 c ∗ Dealt m c) : sProp 𝕄)
    ⊢ |={Set.univ}=> bigSep Finset.univ (Ghost m) :=
  ((bigSep_mono fun c _ => core_alloc m c).trans (bigSep_fupd _ _)).trans (BI.fupd_mono (regroup m))

/-! ## The credit at launch -/

omit [FloatOps F] in
/-- Each device owing the device a permutation sends it to, every device has the credit. -/
theorem launch_at (e : Dev nD ≃ Dev nD) (sm : SemLoc sig) (n : ℕ) (c : Dev nD) :
    (Pipeline.launchCred (fun d : Dev nD => (tallyAt ((e d : Thread nD τ), sm) () n : CellTallies nD τ sig Unit)) c : sProp 𝕄) ⊢ cred (tallyAt ((c : Thread nD τ), sm) () n) := by
  refine (Pipeline.launchCred_elim _ c sm).trans (Entails.of_eq (congrArg cred ?_))
  refine congrArg (tallyOn ((c : Thread nD τ), sm)) (Finsupp.ext fun u => ?_); cases u
  rw [Pipeline.launchCredit_owing, Finsupp.single_eq_same, Finset.sum_congr rfl fun d _ => show tallyAt ((e d : Thread nD τ), sm) () n ((c : Thread nD τ), sm) () = if d = e.symm c then n else 0 from by
      rw [tallyAt_apply]
      by_cases h : d = e.symm c
      · subst h; rw [if_pos rfl, if_pos ⟨by rw [Equiv.apply_symm_apply], rfl⟩]
      · rw [if_neg h, if_neg fun h' => h ?_]
        have h1 : c = e d := congrArg (fun g : GSem nD τ sig => g.1.1) h'.1
        rw [h1, Equiv.symm_apply_apply],
    Finset.sum_ite_eq' Finset.univ (e.symm c) fun _ => n, if_pos (Finset.mem_univ _)]

omit [FloatOps F] in
theorem launch_list (c : Dev nD) : ∀ l : List (Fin 14),
    (Pipeline.launchCred (fun d : Dev nD => OwS d l) c : sProp 𝕄) ⊢ bigSepL l fun t => cred (tallyAt (recvCell c t) () N)
  | [] => Entails.of_eq (Pipeline.launchCred_zero c)
  | t :: l => by
    show (Pipeline.launchCred (fun d : Dev nD => OwS d l + tallyAt (recvCell (dst t d) t) () N) c : sProp 𝕄) ⊢ _
    rw [Pipeline.launchCred_add, bigSepL_cons]
    exact (show iprop(Pipeline.launchCred (fun d : Dev nD => OwS d l) c ∗ Pipeline.launchCred (fun d : Dev nD => tallyAt (recvCell (dst t d) t) () N) c)
        ⊢ (iprop(cred (tallyAt (recvCell c t) () N) ∗ bigSepL l fun t => cred (tallyAt (recvCell c t) () N)) : sProp 𝕄) from by
      iintro ⟨H, Ht⟩
      isplitl [Ht]
      · iapply (launch_at (F := F) (turn (way t)) (.dma (recvS t)) N c); iexact Ht
      · iapply (launch_list c l); iexact H)

omit [FloatOps F] in
theorem creds (c : Dev nD) : (Pipeline.launchCred O₀ c : sProp 𝕄) ⊢ Creds c := by
  have h : (Pipeline.launchCred O₀ c : sProp 𝕄) = iprop(((Pipeline.launchCred (fun d : Dev nD => OwS d order) c
      ∗ Pipeline.launchCred (fun d : Dev nD => tallyAt (barCell ((turn 2).symm d)) () 1) c)
      ∗ Pipeline.launchCred (fun d : Dev nD => tallyAt (barCell ((turn 0).symm d)) () 1) c)
      ∗ Pipeline.launchCred (fun d : Dev nD => tallyAt (barCell ((turn 1).symm d)) () 1) c) := by
    rw [← Pipeline.launchCred_add, ← Pipeline.launchCred_add, ← Pipeline.launchCred_add]; rfl
  rw [h]
  unfold Creds
  iintro ⟨⟨⟨HL, H2⟩, H0⟩, H1⟩
  ihave H0 := (launch_at (F := F) (turn 0).symm (.reg barS) 1 c) $$ H0
  ihave H1 := (launch_at (F := F) (turn 1).symm (.reg barS) 1 c) $$ H1
  ihave H2 := (launch_at (F := F) (turn 2).symm (.reg barS) 1 c) $$ H2
  ihave HL := (launch_list (F := F) c order) $$ HL
  isplitl [H0 H1 H2]
  · iapply (show iprop(cred (tallyAt (barCell c) () 1) ∗ cred (tallyAt (barCell c) () 1) ∗ cred (tallyAt (barCell c) () 1)) ⊢ (cred (tallyAt (barCell c) () 3) : sProp 𝕄) from by
      rw [show (tallyAt (barCell c) () 3 : CellTallies nD τ sig Unit) = tallyAt (barCell c) () 1 + (tallyAt (barCell c) () 1 + tallyAt (barCell c) () 1) from by
        rw [tallyAt_add, tallyAt_add]]
      exact (sep_mono_right (cred_add _ _).2).trans (cred_add _ _).2)
    isplitl [H0]; · iexact H0
    isplitl [H1] <;> iassumption
  · iapply (Entails.of_eq (bigSep_univ_eq_bigSepL order (by decide) (by decide) (fun t : Fin 14 => (cred (tallyAt (recvCell c t) () N) : sProp 𝕄))).symm)
    iexact HL

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start Wts ResAny ws
  isplitl
  · isplitl [HG]; · iexact HG
    isplitl [Hlev]; · iexact Hlev
    isplitl [Hc]; · iexact Hc
    isplitl [Ha]; · iexact Ha
    iexists (m ((c : Thread nD τ).loc main_v1)); iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, Hr⟩
  isplitl [Hs]; · iexact Hs
  iexact Hr

/-- What the region hands back beside its own semaphores and buffers. -/
def After (c : Dev nD) : sProp 𝕄 := iprop(unscopedSems0 c ∗ Wts m c ∗ Res m c)

theorem phi1_exit (c : Dev nD) :
    (dats m 0 c).Φ (Fin.last cfg0.N) ⊢ iprop(After m c ∗ Pipeline.ownSems0 osem c ∗ Pipeline.scopedRest cfg0.spec c) := by
  rw [show (dats m 0 c).Φ (Fin.last cfg0.N) = Φ₁ m c from rfl, scopedRest0_eq, ownSems0_eq]
  unfold Φ₁ After Scratch
  rw [unscopedSems0_eq]
  iintro ⟨zb, snd, rcv, Hin, Hw, Hv, Hs⟩
  isplitl [zb Hw Hv]
  · isplitl [zb]; · iexact zb
    isplitl [Hw] <;> iassumption
  isplitl [snd rcv Hin]
  · isplitl [Hin]; · iexact Hin
    isplitl [snd] <;> iassumption
  iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A buffer held whole is what the memory has there. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

/-- What a device's memory holds at the end: the computed result, and the arguments as they were. -/
def Ends (s : MemSt nD τ sig (Elt F)) (c : Dev nD) : Prop :=
  s.mem ((c.tc : Thread nD τ).loc main_v1) = OUT m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

set_option maxRecDepth 8000 in
/-- For any float values and from any memory with zero counters, every execution of the eight devices ends, and then each device's
    result is computed, its arguments are unchanged and every counter is zero. -/
theorem run_main : θ_run defs (onTc (τ := τ) (main (F := F))) ⟨m, fun _ => 0, ρ⟩ (fun r => (∀ c, Ends m r.2 c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Dealt m) (G' := Ghost m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := After m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c.tc : Thread nD τ).loc main_arg1) = m ((c.tc : Thread nD τ).loc main_arg1) ∧ s.mem ((c.tc : Thread nD τ).loc main_v1) = OUT m c)
    (hY := fun c s' => by
      unfold After Wts Res
      iintro ⟨⟨Hu, Hw, Hv⟩, -, HSI⟩
      ihave Hw := (read_whole _ _ s') $$ [Hw HSI]
      · isplitl [Hw] <;> iassumption
      icases Hw with ⟨%hw, HSI⟩
      ihave Hv := (read_whole _ _ s') $$ [Hv HSI]
      · isplitl [Hv] <;> iassumption
      icases Hv with ⟨%hv, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hw, hv⟩
      iexact HSI)
    (hQ := fun s h hs => ⟨fun c => ⟨(h c).2.2.2.2,
        ((h c).1 (0 : Fin 3)).trans ((dats m 0 c).arrAt_in (0 : Fin 3) rfl _), (h c).2.2.2.1,
        ((h c).1 (1 : Fin 3)).trans ((dats m 0 c).arrAt_in (1 : Fin 3) rfl _),
        ((h c).1 (2 : Fin 3)).trans ((dats m 0 c).arrAt_in (2 : Fin 3) rfl _)⟩, sem_eq_zero hs fun c => (h c).2.2.1⟩)

end Cert.GatherProof

end
-- ==== Proof.Value.lean ====
/-
  The result read entry by entry at the ideal values, and the reference's result entry by entry.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The epilogue at an entry: the scaled sum divided by one plus the exponential of its clipped negative. -/
def act (y : EReal) : EReal :=
  Ideal.div y (Ideal.ofBits .f32 0x3F800000#32 + Ideal.exp (-(min (Ideal.ofBits .f32 0x42700000#32) (max (Ideal.ofBits .f32 0xC2700000#32) y))))

/-- A product onto zero is the sum over the contracted coordinate. -/
theorem product_apply {M : ℕ} (x : FVec Ideal ⟨2, ![M, 4096]⟩ .fp8e4m3) (w : FVec Ideal S4096x1024 .fp8e5m2) (r : Fin M) (n : Fin 1024) :
    FloatOps.matmul (DotDims.plain M 4096 1024) none x w (constant ⟨2, ![M, 1024]⟩ .f32 0x00000000#32) (ix2 r n)
      = ∑ k : Fin 4096, x (ix2 r k) * w (ix2 k n) := by
  rw [Ideal.matmul_plain_apply]
  show Ideal.ofBits .f32 0x00000000#32 + _ = _
  rw [Ideal.ofBits_zero_f32, zero_add]

/-- A tile computed from a whole slot, at an entry. -/
theorem pay8_apply (a : Ideal .f32) (x : Vec Ideal S1x512x4096 .fp8e4m3) (w : Vec Ideal S4096x1024 .fp8e5m2) (r : Fin 512) (n : Fin 1024) :
    (k0_pay8 a x w : FVec Ideal S1x512x1024 .f32) (ix3 0 r n) = act ((∑ k : Fin 4096, x (ix3 0 r k) * w (ix2 k n)) * a) := by
  unfold k0_pay8
  refine (shapeCast_addUnit_apply ![512, 1024] _ _ _).trans ?_
  have e : (fun b => (ix3 (0 : Fin 1) r n) b.succ : S512x1024.Idx) = ix2 r n := by funext b; match b with | 0 => rfl | 1 => rfl
  rw [e]
  have h := product_apply (shapeCast S512x4096 x shapeCasts_S1x512x4096_S512x4096) w r n
  have hs : (∑ k : Fin 4096, shapeCast S512x4096 x shapeCasts_S1x512x4096_S512x4096 (ix2 r k) * w (ix2 k n)) = ∑ k : Fin 4096, x (ix3 0 r k) * w (ix2 k n) :=
    Finset.sum_congr rfl fun k _ => congrArg (· * w (ix2 k n)) ((shapeCast_dropUnit_apply ![512, 4096] x _ _).trans (congrArg x (by
      funext b; match b with | 0 => rfl | 1 => rfl | 2 => rfl)))
  rw [hs] at h
  unfold act
  rw [← h, ← zero_sub, ← Ideal.ofBits_zero_f32]
  rfl

/-- A tile computed from half a slot, at an entry. -/
theorem pay20_apply (a : Ideal .f32) (x : Vec Ideal S1x256x4096 .fp8e4m3) (w : Vec Ideal S4096x1024 .fp8e5m2) (r : Fin 256) (n : Fin 1024) :
    (k0_pay20 a x w : FVec Ideal S1x256x1024 .f32) (ix3 0 r n) = act ((∑ k : Fin 4096, x (ix3 0 r k) * w (ix2 k n)) * a) := by
  unfold k0_pay20
  refine (shapeCast_addUnit_apply ![256, 1024] _ _ _).trans ?_
  have e : (fun b => (ix3 (0 : Fin 1) r n) b.succ : S256x1024.Idx) = ix2 r n := by funext b; match b with | 0 => rfl | 1 => rfl
  rw [e]
  have h := product_apply (shapeCast S256x4096 x shapeCasts_S1x256x4096_S256x4096) w r n
  have hs : (∑ k : Fin 4096, shapeCast S256x4096 x shapeCasts_S1x256x4096_S256x4096 (ix2 r k) * w (ix2 k n)) = ∑ k : Fin 4096, x (ix3 0 r k) * w (ix2 k n) :=
    Finset.sum_congr rfl fun k _ => congrArg (· * w (ix2 k n)) ((shapeCast_dropUnit_apply ![256, 4096] x _ _).trans (congrArg x (by
      funext b; match b with | 0 => rfl | 1 => rfl | 2 => rfl)))
  rw [hs] at h
  unfold act
  rw [← h, ← zero_sub, ← Ideal.ofBits_zero_f32]
  rfl

variable (m : (ℓ : Loc nD τ sig) → Buf (Elt Ideal) ℓ)

/-! ## What the body loads, at an entry -/

/-- A device's block of `x`, its scales and its weights, as arrays of entries. -/
abbrev xA (c : Dev nD) : FVec Ideal S512x4096 .f32 := m ((c : Thread nD τ).loc main_arg0)
abbrev wA (c : Dev nD) : FVec Ideal S4096x1024 .f32 := m ((c : Thread nD τ).loc main_arg1)
abbrev pA (c : Dev nD) : FVec Ideal S1 .f32 := m ((c : Thread nD τ).loc main_arg2)
abbrev qA' (c : Dev nD) : FVec Ideal S1 .f32 := m ((c : Thread nD τ).loc main_arg3)

theorem xs_apply (c : Dev nD) (r : Fin 512) (k : Fin 4096) : (xs m c : FVec Ideal S512x4096 .f32) (ix2 r k) = xA m c (ix2 r k) := by
  show xA m c _ = xA m c _
  congr 1
  funext a
  match a with
  | 0 => exact Fin.ext (by show 0 * 512 + 1 * r.val = r.val; omega)
  | 1 => exact Fin.ext (by show 0 * 4096 + 1 * k.val = k.val; omega)

theorem scale_eq (c : Dev nD) : (scale m c : EReal) = pA m c (ix1 0) * qA' m c (ix1 0) := by
  show pA m c _ * qA' m c _ = _
  congr 2
  · congr 1; funext a; match a with | 0 => rfl
  · congr 1; funext a; match a with | 0 => rfl

theorem sv_apply (s : Dev nD) (r : Fin 512) (k : Fin 4096) : (sv m s (ix3 0 r k) : EReal) = xA m s (ix2 r k) := by
  rw [← xs_apply]
  show (xs m _ : FVec Ideal S512x4096 .f32) _ = _
  congr 1
  funext a
  match a with
  | 0 => exact Fin.ext (by show 0 + 1 * r.val = r.val; omega)
  | 1 => exact Fin.ext (by show 0 + 1 * k.val = k.val; omega)

theorem hv_apply (s : Dev nD) (h : Fin 2) (r : Fin 256) (k : Fin 4096) :
    (hv m s h (ix3 0 r k) : EReal) = xA m s (ix2 ⟨256 * h.val + r.val, by have := h.isLt; have := r.isLt; omega⟩ k) := by
  rw [← xs_apply]
  show (xs m _ : FVec Ideal S512x4096 .f32) _ = _
  congr 1
  funext a
  match a with
  | 0 => exact Fin.ext (by show 256 * h.val + 1 * r.val = 256 * h.val + r.val; omega)
  | 1 => exact Fin.ext (by show 0 + 1 * k.val = k.val; omega)

theorem w8v_apply (c : Dev nD) (k : Fin 4096) (n : Fin 1024) : (w8v m c (ix2 k n) : EReal) = wA m c (ix2 k n) := by
  show wA m c _ = wA m c _
  congr 1
  funext a
  match a with
  | 0 => exact Fin.ext (by show 0 + 1 * k.val = k.val; omega)
  | 1 => exact Fin.ext (by show 0 + 1 * n.val = n.val; omega)

/-- Entry `(r, n)` of the tile of slot `s` on device `c`. -/
def entry (c s : Dev nD) (r : Fin 512) (n : Fin 1024) : EReal :=
  act ((∑ k : Fin 4096, xA m s (ix2 r k) * wA m c (ix2 k n)) * (pA m c (ix1 0) * qA' m c (ix1 0)))

theorem tile1_apply (c s : Dev nD) (r : Fin 512) (n : Fin 1024) : (tile1 m c s (ix3 0 r n) : EReal) = entry m c s r n := by
  unfold tile1 entry
  rw [pay8_apply, ← scale_eq]
  congr 2
  exact Finset.sum_congr rfl fun k _ => by rw [← sv_apply, ← w8v_apply]

theorem htile_apply (c s : Dev nD) (h : Fin 2) (r : Fin 256) (n : Fin 1024) :
    (htile m c s h (ix3 0 r n) : EReal) = entry m c s ⟨256 * h.val + r.val, by have := h.isLt; have := r.isLt; omega⟩ n := by
  unfold htile entry
  rw [pay20_apply, ← scale_eq]
  congr 2
  exact Finset.sum_congr rfl fun k _ => by rw [← hv_apply, ← w8v_apply]

theorem tile2_apply (c s : Dev nD) (r : Fin 512) (n : Fin 1024) : (tile2 m c s (ix3 0 r n) : EReal) = entry m c s r n := by
  have hr := r.isLt
  have h := htile_apply m c s (if r.val < 256 then 0 else 1) ⟨r.val % 256, Nat.mod_lt _ (by decide)⟩ n
  have e : (⟨256 * (if r.val < 256 then (0 : Fin 2) else 1).val + r.val % 256, by split <;> simp <;> omega⟩ : Fin 512) = r := Fin.ext (by
    show 256 * (if r.val < 256 then (0 : Fin 2) else 1).val + r.val % 256 = r.val
    split <;> simp <;> omega)
  rw [e] at h
  rw [← h]
  unfold tile2
  congr 1
  funext a
  match a with
  | 0 => rfl
  | 1 => rfl
  | 2 => rfl

theorem tile_apply (c s : Dev nD) (r : Fin 512) (n : Fin 1024) : (tile m c s (ix3 0 r n) : EReal) = entry m c s r n := by
  unfold tile; split
  · exact tile2_apply m c s r n
  · exact tile1_apply m c s r n

/-- The result at an entry. -/
theorem OUT_apply (c : Dev nD) (i : S4096x1024.Idx) :
    (OUT m c i : EReal) = entry m c ⟨(i 0).val / 512, by have h : (i 0).val < 4096 := (i 0).isLt; simp only [nD]; omega⟩
      ⟨(i 0).val % 512, Nat.mod_lt _ (by decide)⟩ ⟨(i 1).val, (i 1).isLt⟩ := by
  rw [← tile_apply]
  unfold OUT
  congr 1
  funext a
  match a with
  | 0 => rfl
  | 1 => rfl
  | 2 => rfl

/-! ## The reference at an entry -/

section Reference
open Cert.ReferenceIdeal (S4096x4096 S4096x8192 S1x1)

/-- The reference's result as a function of its arguments. -/
def refOut (x : FVec Ideal S4096x4096 .f32) (w : FVec Ideal S4096x8192 .f32) (p q : FVec Ideal Cert.ReferenceIdeal.S1 .f32) : FVec Ideal S4096x8192 .f32 :=
  fun j => act ((∑ k : Fin 4096, x (ix2 (j 0) k) * w (ix2 k (j 1))) * (p (ix1 0) * q (ix1 0)))

theorem ref_eq (x : FVec Ideal S4096x4096 .f32) (w : FVec Ideal S4096x8192 .f32) (p q : FVec Ideal Cert.ReferenceIdeal.S1 .f32) :
    (Host.divf (mulf (Host.dotGeneral Cert.ReferenceIdeal.dot_S4096x4096_S4096x8192_S4096x8192_1_0_0_1_n_n none x w)
        (broadcastInDim S4096x8192 ![0, 1] Cert.ReferenceIdeal.Gen.bcast_S1x1_S4096x8192_0_1 (broadcastInDim S1x1 ![1] Cert.ReferenceIdeal.Gen.bcast_S1_S1x1_1 (mulf p q))))
      (addf (broadcastInDim S4096x8192 ![] Cert.ReferenceIdeal.Gen.bcast_S_S4096x8192 (constant Cert.ReferenceIdeal.S_ .f32 0x3F800000#32))
        (Host.exp (Host.negf (minimumf (broadcastInDim S4096x8192 ![] Cert.ReferenceIdeal.Gen.bcast_S_S4096x8192 (id (constant Cert.ReferenceIdeal.S_ .f32 0x42700000#32)))
          (maximumf (broadcastInDim S4096x8192 ![] Cert.ReferenceIdeal.Gen.bcast_S_S4096x8192 (id (constant Cert.ReferenceIdeal.S_ .f32 0xC2700000#32)))
            (mulf (Host.dotGeneral Cert.ReferenceIdeal.dot_S4096x4096_S4096x8192_S4096x8192_1_0_0_1_n_n none x w)
              (broadcastInDim S4096x8192 ![0, 1] Cert.ReferenceIdeal.Gen.bcast_S1x1_S4096x8192_0_1 (broadcastInDim S1x1 ![1] Cert.ReferenceIdeal.Gen.bcast_S1_S1x1_1 (mulf p q)))))))))
      : FVec Ideal S4096x8192 .f32) = refOut x w p q := by
  funext j
  have h : Host.dotGeneral (DotDims.plain 4096 4096 8192) none x w j = ∑ k : Fin 4096, x (ix2 (j 0) k) * w (ix2 k (j 1)) :=
    (congrArg (Host.dotGeneral (DotDims.plain 4096 4096 8192) none x w) (eq_ix2 j)).trans (StackMember.dotGeneral_plain_apply none x w (j 0) (j 1))
  unfold refOut act
  rw [← h]
  have e : (broadcastInDim S4096x8192 ![0, 1] Cert.ReferenceIdeal.Gen.bcast_S1x1_S4096x8192_0_1 (broadcastInDim S1x1 ![1] Cert.ReferenceIdeal.Gen.bcast_S1_S1x1_1 (mulf p q)) : FVec Ideal S4096x8192 .f32) j
      = p (ix1 0) * q (ix1 0) := by
    show p _ * q _ = _
    congr 2
    · congr 1; funext a; match a with | 0 => exact Fin.ext rfl
    · congr 1; funext a; match a with | 0 => exact Fin.ext rfl
  rw [← e]
  rfl

end Reference

end Cert.GatherProof

end
-- ==== Proof.Same.lean ====
module

public import proofs.«01_k».proof.Proof.Gen.Kernel
public import proofs.«01_k».proof.Proof.Gen.KernelIdeal

/-!
# The two printings of the kernel are one program

The kernel is printed twice, once to be read at the bits and once to be read at the extended
reals, and no operation was rewritten on the way. So at any reading of the floats the two body
tables are equal, and what is proved of the one run holds of the other.
-/

@[expose] public section

noncomputable section

namespace Cert.GatherProof

open Idealize.ShloMosaic

variable {F : FTy → Type} [FloatOps F]

/-- The two bodies are the same program. -/
theorem body_same :
    (@Cert.Kernel.cc0_body F _ Cert.Kernel.Gen.facts)
      = (@Cert.KernelIdeal.cc0_body F _ Cert.KernelIdeal.Gen.facts) := rfl

/-- The tables of the kernels' bodies agree. -/
theorem bodies_same :
    (@Cert.Kernel.defs₀ F _ Cert.Kernel.Gen.facts)
      = (@Cert.KernelIdeal.defs₀ F _ Cert.KernelIdeal.Gen.facts) :=
  congrArg Defs.onTc (by
    funext l a
    match l, a with
    | 0, (t, s) => rfl
    | ⟨n + 1, h⟩, _ => exact absurd h (by omega))

/-- The whole tables agree. -/
theorem defs_same :
    (@Cert.Kernel.defs F _ Cert.Kernel.Gen.facts)
      = (@Cert.KernelIdeal.defs F _ Cert.KernelIdeal.Gen.facts) :=
  congrArg (Pipeline.defs (@Cert.KernelIdeal.pcfgs F Cert.KernelIdeal.Gen.facts)) bodies_same

/-- The main programs agree. -/
theorem main_same :
    (@Cert.Kernel.main F Cert.Kernel.Gen.facts)
      = (@Cert.KernelIdeal.main F Cert.KernelIdeal.Gen.facts) := rfl

end Cert.GatherProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.GatherProof (run_main Ends)

/-! ## The frames -/

/-- At any floats, and under any names of the body table and the main program. -/
theorem frame_any {F : FTy → Type} [FloatOps F]
    (D : Defs Cert.KernelIdeal.nD Cert.KernelIdeal.τ Cert.KernelIdeal.sig (Elt F) (Pipeline.Sig Cert.KernelIdeal.Λ₀ (Fin 1) fun p => (Cert.KernelIdeal.pcfgs (F := F) p).Adm))
    (M : Dev Cert.KernelIdeal.nD → Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit)
    (hD : D = Cert.KernelIdeal.defs) (hM : M = Cert.KernelIdeal.main)
    (m : (ℓ : Loc Cert.KernelIdeal.nD Cert.KernelIdeal.τ Cert.KernelIdeal.sig) → Buf (Elt F) ℓ) (ρ : Dev Cert.KernelIdeal.nD → PrngReg) :
    θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst hD hM
  exact (θ_run Cert.KernelIdeal.defs _ _).mono (fun _ h => ⟨fun c => (h.1 c).2, h.2⟩) (run_main (F := F) m ρ)

theorem frame_ideal : Cert.quiescent_KernelIdeal := fun m ρ _ => frame_any _ _ rfl rfl m ρ

/-- At the bits, by the equality of the two programs. -/
theorem frame_kernel : Cert.quiescent_Kernel := fun m ρ _ =>
  frame_any (F := Bits) Cert.Kernel.defs Cert.Kernel.main GatherProof.defs_same GatherProof.main_same m ρ

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-! ## The value -/

/-- The rows and columns of the reference's result that device `c` computes. -/
theorem value (m : (ℓ : Loc Cert.KernelIdeal.nD Cert.KernelIdeal.τ Cert.KernelIdeal.sig) → Buf (Elt Ideal) ℓ)
    (x : FVec Ideal Cert.ReferenceIdeal.S4096x4096 .f32) (w : FVec Ideal Cert.ReferenceIdeal.S4096x8192 .f32) (p q : FVec Ideal Cert.ReferenceIdeal.S1 .f32)
    (h : ∀ c : Dev Cert.KernelIdeal.nD, GatherProof.xA m c = Layout.block ⟨2, ![512, 4096]⟩ ⟨2, ![4096, 4096]⟩ 0 8 c x
      ∧ GatherProof.wA m c = Layout.block ⟨2, ![4096, 1024]⟩ ⟨2, ![4096, 8192]⟩ 1 8 c w ∧ GatherProof.pA m c = p ∧ GatherProof.qA' m c = q)
    (c : Dev Cert.KernelIdeal.nD) :
    GatherProof.OUT m c = Layout.block ⟨2, ![4096, 1024]⟩ ⟨2, ![4096, 8192]⟩ 1 8 c (GatherProof.refOut x w p q) := by
  funext i
  rw [GatherProof.OUT_apply]
  show _ = GatherProof.refOut x w p q _
  unfold GatherProof.entry GatherProof.refOut
  rw [(h c).2.2.1, (h c).2.2.2, (h c).2.1]
  congr 2
  refine Finset.sum_congr rfl fun k _ => ?_
  rw [(h _).1]
  have hi : (i 0).val < 4096 := (i 0).isLt
  congr 1
  · show x _ = x _
    congr 1; funext a
    match a with
    | 0 => exact Fin.ext (by show (i 0).val / 512 * 512 + (i 0).val % 512 = (i 0).val; omega)
    | 1 => rfl
  · show w _ = w _
    congr 1; funext a
    match a with
    | 0 => rfl
    | 1 => rfl

theorem algebra : Cert.algebraic_KernelIdeal_ReferenceIdeal := by
  intro m ρ m' ρ' _ hm
  refine ⟨GatherProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono (fun _ h c => ⟨(h.1 c).1.trans (value m _ _ _ _ hm c), (h.1 c).2⟩) (run_main (F := Ideal) m ρ)
  · exact (θ_run Cert.ReferenceIdeal.defs _ _).mono (fun _ h => ⟨(h 0).1.trans (GatherProof.ref_eq _ _ _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, algebra⟩

end Cert.Proof

end
